-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInReferenceIdeal (m : (ℓ : Loc Cert.GmlpInReferenceIdeal.nD Cert.GmlpInReferenceIdeal.τ Cert.GmlpInReferenceIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutReferenceIdeal (m : (ℓ : Loc Cert.GmlpOutReferenceIdeal.nD Cert.GmlpOutReferenceIdeal.τ Cert.GmlpOutReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite [hPre_finite : Cert.Pre_finite.Facts] (m : (ℓ : Loc Cert.RouteIdeal.nD Cert.RouteIdeal.τ Cert.RouteIdeal.sig) → Buf (Elt Ideal) ℓ) : Prop :=
  ∀ c : Dev Cert.RouteIdeal.nD,
    (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).1 = (fun _ => 1#1)
    ∧ (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2.1 = (fun _ => 1#1)
    ∧ (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2.2 = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_finite [hPre_finite : Cert.Pre_finite.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_finite.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2))).1 = (fun _ => 1#1)
    ∧ (Cert.Pre_finite.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2))).2.1 = (fun _ => 1#1)
    ∧ (Cert.Pre_finite.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2))).2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2)
      ∧ r.2.mem ((c.tc : Thread Cert.GmlpIn.nD Cert.GmlpIn.τ).loc Cert.GmlpIn.main_arg3) = m ((c.tc : Thread Cert.GmlpIn.nD Cert.GmlpIn.τ).loc Cert.GmlpIn.main_arg3)
      ∧ r.2.mem ((c.tc : Thread Cert.GmlpIn.nD Cert.GmlpIn.τ).loc Cert.GmlpIn.main_arg4) = m ((c.tc : Thread Cert.GmlpIn.nD Cert.GmlpIn.τ).loc Cert.GmlpIn.main_arg4))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
      ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3)
      ∧ r.2.mem ((c.tc : Thread Cert.GmlpInIdeal.nD Cert.GmlpInIdeal.τ).loc Cert.GmlpInIdeal.main_arg4) = m ((c.tc : Thread Cert.GmlpInIdeal.nD Cert.GmlpInIdeal.τ).loc Cert.GmlpInIdeal.main_arg4))
      ∧ r.2.sem = fun _ => 0)

def quiescent_GmlpInReferenceIdeal [hGmlpInReferenceIdeal : Cert.GmlpInReferenceIdeal.Facts] : Prop :=
  ∀ (m : (ℓ : Loc Cert.GmlpInReferenceIdeal.nD Cert.GmlpInReferenceIdeal.τ Cert.GmlpInReferenceIdeal.sig) → Buf (Elt Ideal) ℓ) (g : Dev Cert.GmlpInReferenceIdeal.nD → PrngReg), Pre_GmlpInReferenceIdeal m →
    θ_run (Cert.GmlpInReferenceIdeal.defs (F := Ideal)) (onTc (τ := Cert.GmlpInReferenceIdeal.τ) (Cert.GmlpInReferenceIdeal.main (F := Ideal))) ⟨m, fun _ => 0, g⟩ (fun r => (∀ c : Dev Cert.GmlpInReferenceIdeal.nD,
      r.2.mem ((c.tc : Thread Cert.GmlpInReferenceIdeal.nD Cert.GmlpInReferenceIdeal.τ).loc Cert.GmlpInReferenceIdeal.main_arg0) = m ((c.tc : Thread Cert.GmlpInReferenceIdeal.nD Cert.GmlpInReferenceIdeal.τ).loc Cert.GmlpInReferenceIdeal.main_arg0)
      ∧ r.2.mem ((c.tc : Thread Cert.GmlpInReferenceIdeal.nD Cert.GmlpInReferenceIdeal.τ).loc Cert.GmlpInReferenceIdeal.main_arg1) = m ((c.tc : Thread Cert.GmlpInReferenceIdeal.nD Cert.GmlpInReferenceIdeal.τ).loc Cert.GmlpInReferenceIdeal.main_arg1)
      ∧ r.2.mem ((c.tc : Thread Cert.GmlpInReferenceIdeal.nD Cert.GmlpInReferenceIdeal.τ).loc Cert.GmlpInReferenceIdeal.main_arg2) = m ((c.tc : Thread Cert.GmlpInReferenceIdeal.nD Cert.GmlpInReferenceIdeal.τ).loc Cert.GmlpInReferenceIdeal.main_arg2)
      ∧ r.2.mem ((c.tc : Thread Cert.GmlpInReferenceIdeal.nD Cert.GmlpInReferenceIdeal.τ).loc Cert.GmlpInReferenceIdeal.main_arg3) = m ((c.tc : Thread Cert.GmlpInReferenceIdeal.nD Cert.GmlpInReferenceIdeal.τ).loc Cert.GmlpInReferenceIdeal.main_arg3)
      ∧ r.2.mem ((c.tc : Thread Cert.GmlpInReferenceIdeal.nD Cert.GmlpInReferenceIdeal.τ).loc Cert.GmlpInReferenceIdeal.main_arg4) = m ((c.tc : Thread Cert.GmlpInReferenceIdeal.nD Cert.GmlpInReferenceIdeal.τ).loc Cert.GmlpInReferenceIdeal.main_arg4))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1)
      ∧ r.2.mem ((c.tc : Thread Cert.GmlpOut.nD Cert.GmlpOut.τ).loc Cert.GmlpOut.main_arg2) = m ((c.tc : Thread Cert.GmlpOut.nD Cert.GmlpOut.τ).loc Cert.GmlpOut.main_arg2)
      ∧ r.2.mem ((c.tc : Thread Cert.GmlpOut.nD Cert.GmlpOut.τ).loc Cert.GmlpOut.main_arg3) = m ((c.tc : Thread Cert.GmlpOut.nD Cert.GmlpOut.τ).loc Cert.GmlpOut.main_arg3)
      ∧ r.2.mem ((c.tc : Thread Cert.GmlpOut.nD Cert.GmlpOut.τ).loc Cert.GmlpOut.main_arg4) = m ((c.tc : Thread Cert.GmlpOut.nD Cert.GmlpOut.τ).loc Cert.GmlpOut.main_arg4)
      ∧ r.2.mem ((c.tc : Thread Cert.GmlpOut.nD Cert.GmlpOut.τ).loc Cert.GmlpOut.main_arg5) = m ((c.tc : Thread Cert.GmlpOut.nD Cert.GmlpOut.τ).loc Cert.GmlpOut.main_arg5))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
      ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2)
      ∧ r.2.mem ((c.tc : Thread Cert.GmlpOutIdeal.nD Cert.GmlpOutIdeal.τ).loc Cert.GmlpOutIdeal.main_arg3) = m ((c.tc : Thread Cert.GmlpOutIdeal.nD Cert.GmlpOutIdeal.τ).loc Cert.GmlpOutIdeal.main_arg3)
      ∧ r.2.mem ((c.tc : Thread Cert.GmlpOutIdeal.nD Cert.GmlpOutIdeal.τ).loc Cert.GmlpOutIdeal.main_arg4) = m ((c.tc : Thread Cert.GmlpOutIdeal.nD Cert.GmlpOutIdeal.τ).loc Cert.GmlpOutIdeal.main_arg4)
      ∧ r.2.mem ((c.tc : Thread Cert.GmlpOutIdeal.nD Cert.GmlpOutIdeal.τ).loc Cert.GmlpOutIdeal.main_arg5) = m ((c.tc : Thread Cert.GmlpOutIdeal.nD Cert.GmlpOutIdeal.τ).loc Cert.GmlpOutIdeal.main_arg5))
      ∧ r.2.sem = fun _ => 0)

def quiescent_GmlpOutReferenceIdeal [hGmlpOutReferenceIdeal : Cert.GmlpOutReferenceIdeal.Facts] : Prop :=
  ∀ (m : (ℓ : Loc Cert.GmlpOutReferenceIdeal.nD Cert.GmlpOutReferenceIdeal.τ Cert.GmlpOutReferenceIdeal.sig) → Buf (Elt Ideal) ℓ) (g : Dev Cert.GmlpOutReferenceIdeal.nD → PrngReg), Pre_GmlpOutReferenceIdeal m →
    θ_run (Cert.GmlpOutReferenceIdeal.defs (F := Ideal)) (onTc (τ := Cert.GmlpOutReferenceIdeal.τ) (Cert.GmlpOutReferenceIdeal.main (F := Ideal))) ⟨m, fun _ => 0, g⟩ (fun r => (∀ c : Dev Cert.GmlpOutReferenceIdeal.nD,
      r.2.mem ((c.tc : Thread Cert.GmlpOutReferenceIdeal.nD Cert.GmlpOutReferenceIdeal.τ).loc Cert.GmlpOutReferenceIdeal.main_arg0) = m ((c.tc : Thread Cert.GmlpOutReferenceIdeal.nD Cert.GmlpOutReferenceIdeal.τ).loc Cert.GmlpOutReferenceIdeal.main_arg0)
      ∧ r.2.mem ((c.tc : Thread Cert.GmlpOutReferenceIdeal.nD Cert.GmlpOutReferenceIdeal.τ).loc Cert.GmlpOutReferenceIdeal.main_arg1) = m ((c.tc : Thread Cert.GmlpOutReferenceIdeal.nD Cert.GmlpOutReferenceIdeal.τ).loc Cert.GmlpOutReferenceIdeal.main_arg1)
      ∧ r.2.mem ((c.tc : Thread Cert.GmlpOutReferenceIdeal.nD Cert.GmlpOutReferenceIdeal.τ).loc Cert.GmlpOutReferenceIdeal.main_arg2) = m ((c.tc : Thread Cert.GmlpOutReferenceIdeal.nD Cert.GmlpOutReferenceIdeal.τ).loc Cert.GmlpOutReferenceIdeal.main_arg2)
      ∧ r.2.mem ((c.tc : Thread Cert.GmlpOutReferenceIdeal.nD Cert.GmlpOutReferenceIdeal.τ).loc Cert.GmlpOutReferenceIdeal.main_arg3) = m ((c.tc : Thread Cert.GmlpOutReferenceIdeal.nD Cert.GmlpOutReferenceIdeal.τ).loc Cert.GmlpOutReferenceIdeal.main_arg3)
      ∧ r.2.mem ((c.tc : Thread Cert.GmlpOutReferenceIdeal.nD Cert.GmlpOutReferenceIdeal.τ).loc Cert.GmlpOutReferenceIdeal.main_arg4) = m ((c.tc : Thread Cert.GmlpOutReferenceIdeal.nD Cert.GmlpOutReferenceIdeal.τ).loc Cert.GmlpOutReferenceIdeal.main_arg4)
      ∧ r.2.mem ((c.tc : Thread Cert.GmlpOutReferenceIdeal.nD Cert.GmlpOutReferenceIdeal.τ).loc Cert.GmlpOutReferenceIdeal.main_arg5) = m ((c.tc : Thread Cert.GmlpOutReferenceIdeal.nD Cert.GmlpOutReferenceIdeal.τ).loc Cert.GmlpOutReferenceIdeal.main_arg5))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_finite [hRouteIdeal : Cert.RouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0)

def quiescent_RouteReferenceIdeal_pre_finite [hRouteReferenceIdeal : Cert.RouteReferenceIdeal.Facts] [hPre_finite : Cert.Pre_finite.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_finite m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8)
      ∧ r.2.mem ((c.tc : Thread Cert.Rglru.nD Cert.Rglru.τ).loc Cert.Rglru.main_arg9) = m ((c.tc : Thread Cert.Rglru.nD Cert.Rglru.τ).loc Cert.Rglru.main_arg9)
      ∧ r.2.mem ((c.tc : Thread Cert.Rglru.nD Cert.Rglru.τ).loc Cert.Rglru.main_arg10) = m ((c.tc : Thread Cert.Rglru.nD Cert.Rglru.τ).loc Cert.Rglru.main_arg10))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
      ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
      ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ r.2.sem = fun _ => 0)

def preserves_Kernel_KernelIdeal : Prop :=
  True

def algebraic_KernelIdeal_ReferenceIdeal_on_routed_rows [hKernelIdeal : Cert.KernelIdeal.Facts] [hReferenceIdeal : Cert.ReferenceIdeal.Facts] [hPre_experts_in_range : Cert.Pre_experts_in_range.Facts] [hOn_routed_rows : Cert.On_routed_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![40960, 1024]⟩ : Shape).Idx, (Cert.On_routed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![40960, 1024]⟩ : Shape).Idx, (Cert.On_routed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v128) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v19) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_GmlpIn_GmlpInIdeal : Prop :=
  IdealRules.named_const.Statement Cert.GmlpInIdeal.κ "folded" .f32 0x3D122279#32 ((80338380498831 / 2251799813685248 : ℝ) : EReal)

def algebraic_GmlpInIdeal_GmlpInReferenceIdeal [hGmlpInIdeal : Cert.GmlpInIdeal.Facts] [hGmlpInReferenceIdeal : Cert.GmlpInReferenceIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInReferenceIdeal.nD Cert.GmlpInReferenceIdeal.τ Cert.GmlpInReferenceIdeal.sig) → Buf (Elt Ideal) ℓ) (g' : Dev Cert.GmlpInReferenceIdeal.nD → PrngReg), Pre_GmlpInIdeal m →
    (∀ c : Dev Cert.GmlpInIdeal.nD,
      m' ((c.tc : Thread Cert.GmlpInReferenceIdeal.nD Cert.GmlpInReferenceIdeal.τ).loc Cert.GmlpInReferenceIdeal.main_arg0) = m ((c.tc : Thread Cert.GmlpInIdeal.nD Cert.GmlpInIdeal.τ).loc Cert.GmlpInIdeal.main_arg0)
      ∧ m' ((c.tc : Thread Cert.GmlpInReferenceIdeal.nD Cert.GmlpInReferenceIdeal.τ).loc Cert.GmlpInReferenceIdeal.main_arg1) = m ((c.tc : Thread Cert.GmlpInIdeal.nD Cert.GmlpInIdeal.τ).loc Cert.GmlpInIdeal.main_arg1)
      ∧ m' ((c.tc : Thread Cert.GmlpInReferenceIdeal.nD Cert.GmlpInReferenceIdeal.τ).loc Cert.GmlpInReferenceIdeal.main_arg2) = m ((c.tc : Thread Cert.GmlpInIdeal.nD Cert.GmlpInIdeal.τ).loc Cert.GmlpInIdeal.main_arg2)
      ∧ m' ((c.tc : Thread Cert.GmlpInReferenceIdeal.nD Cert.GmlpInReferenceIdeal.τ).loc Cert.GmlpInReferenceIdeal.main_arg3) = m ((c.tc : Thread Cert.GmlpInIdeal.nD Cert.GmlpInIdeal.τ).loc Cert.GmlpInIdeal.main_arg3)
      ∧ m' ((c.tc : Thread Cert.GmlpInReferenceIdeal.nD Cert.GmlpInReferenceIdeal.τ).loc Cert.GmlpInReferenceIdeal.main_arg4) = m ((c.tc : Thread Cert.GmlpInIdeal.nD Cert.GmlpInIdeal.τ).loc Cert.GmlpInIdeal.main_arg4)) →
    ∃ (v0 : (c : Dev Cert.GmlpInIdeal.nD) → Buf (Elt Ideal) ((c.tc : Thread Cert.GmlpInIdeal.nD Cert.GmlpInIdeal.τ).loc Cert.GmlpInIdeal.main_v4_0)) (v1 : (c : Dev Cert.GmlpInIdeal.nD) → Buf (Elt Ideal) ((c.tc : Thread Cert.GmlpInIdeal.nD Cert.GmlpInIdeal.τ).loc Cert.GmlpInIdeal.main_v4_1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v4_0) = v0 c
          ∧ r.2.mem ((c.tc : Thread Cert.GmlpInIdeal.nD Cert.GmlpInIdeal.τ).loc Cert.GmlpInIdeal.main_v4_1) = v1 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
          ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3)
          ∧ r.2.mem ((c.tc : Thread Cert.GmlpInIdeal.nD Cert.GmlpInIdeal.τ).loc Cert.GmlpInIdeal.main_arg4) = m ((c.tc : Thread Cert.GmlpInIdeal.nD Cert.GmlpInIdeal.τ).loc Cert.GmlpInIdeal.main_arg4))
      ∧ θ_run (Cert.GmlpInReferenceIdeal.defs (F := Ideal)) (onTc (τ := Cert.GmlpInReferenceIdeal.τ) (Cert.GmlpInReferenceIdeal.main (F := Ideal))) ⟨m', fun _ => 0, g'⟩ (fun r => ∀ c : Dev Cert.GmlpInReferenceIdeal.nD,
          r.2.mem ((c.tc : Thread Cert.GmlpInReferenceIdeal.nD Cert.GmlpInReferenceIdeal.τ).loc Cert.GmlpInReferenceIdeal.main_v29) = v0 c
          ∧ r.2.mem ((c.tc : Thread Cert.GmlpInReferenceIdeal.nD Cert.GmlpInReferenceIdeal.τ).loc Cert.GmlpInReferenceIdeal.main_v52) = v1 c
          ∧ r.2.mem ((c.tc : Thread Cert.GmlpInReferenceIdeal.nD Cert.GmlpInReferenceIdeal.τ).loc Cert.GmlpInReferenceIdeal.main_arg0) = m' ((c.tc : Thread Cert.GmlpInReferenceIdeal.nD Cert.GmlpInReferenceIdeal.τ).loc Cert.GmlpInReferenceIdeal.main_arg0)
          ∧ r.2.mem ((c.tc : Thread Cert.GmlpInReferenceIdeal.nD Cert.GmlpInReferenceIdeal.τ).loc Cert.GmlpInReferenceIdeal.main_arg1) = m' ((c.tc : Thread Cert.GmlpInReferenceIdeal.nD Cert.GmlpInReferenceIdeal.τ).loc Cert.GmlpInReferenceIdeal.main_arg1)
          ∧ r.2.mem ((c.tc : Thread Cert.GmlpInReferenceIdeal.nD Cert.GmlpInReferenceIdeal.τ).loc Cert.GmlpInReferenceIdeal.main_arg2) = m' ((c.tc : Thread Cert.GmlpInReferenceIdeal.nD Cert.GmlpInReferenceIdeal.τ).loc Cert.GmlpInReferenceIdeal.main_arg2)
          ∧ r.2.mem ((c.tc : Thread Cert.GmlpInReferenceIdeal.nD Cert.GmlpInReferenceIdeal.τ).loc Cert.GmlpInReferenceIdeal.main_arg3) = m' ((c.tc : Thread Cert.GmlpInReferenceIdeal.nD Cert.GmlpInReferenceIdeal.τ).loc Cert.GmlpInReferenceIdeal.main_arg3)
          ∧ r.2.mem ((c.tc : Thread Cert.GmlpInReferenceIdeal.nD Cert.GmlpInReferenceIdeal.τ).loc Cert.GmlpInReferenceIdeal.main_arg4) = m' ((c.tc : Thread Cert.GmlpInReferenceIdeal.nD Cert.GmlpInReferenceIdeal.τ).loc Cert.GmlpInReferenceIdeal.main_arg4))

def preserves_GmlpOut_GmlpOutIdeal : Prop :=
  True

def algebraic_GmlpOutIdeal_GmlpOutReferenceIdeal [hGmlpOutIdeal : Cert.GmlpOutIdeal.Facts] [hGmlpOutReferenceIdeal : Cert.GmlpOutReferenceIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutReferenceIdeal.nD Cert.GmlpOutReferenceIdeal.τ Cert.GmlpOutReferenceIdeal.sig) → Buf (Elt Ideal) ℓ) (g' : Dev Cert.GmlpOutReferenceIdeal.nD → PrngReg), Pre_GmlpOutIdeal m →
    (∀ c : Dev Cert.GmlpOutIdeal.nD,
      m' ((c.tc : Thread Cert.GmlpOutReferenceIdeal.nD Cert.GmlpOutReferenceIdeal.τ).loc Cert.GmlpOutReferenceIdeal.main_arg0) = m ((c.tc : Thread Cert.GmlpOutIdeal.nD Cert.GmlpOutIdeal.τ).loc Cert.GmlpOutIdeal.main_arg0)
      ∧ m' ((c.tc : Thread Cert.GmlpOutReferenceIdeal.nD Cert.GmlpOutReferenceIdeal.τ).loc Cert.GmlpOutReferenceIdeal.main_arg1) = m ((c.tc : Thread Cert.GmlpOutIdeal.nD Cert.GmlpOutIdeal.τ).loc Cert.GmlpOutIdeal.main_arg1)
      ∧ m' ((c.tc : Thread Cert.GmlpOutReferenceIdeal.nD Cert.GmlpOutReferenceIdeal.τ).loc Cert.GmlpOutReferenceIdeal.main_arg2) = m ((c.tc : Thread Cert.GmlpOutIdeal.nD Cert.GmlpOutIdeal.τ).loc Cert.GmlpOutIdeal.main_arg2)
      ∧ m' ((c.tc : Thread Cert.GmlpOutReferenceIdeal.nD Cert.GmlpOutReferenceIdeal.τ).loc Cert.GmlpOutReferenceIdeal.main_arg3) = m ((c.tc : Thread Cert.GmlpOutIdeal.nD Cert.GmlpOutIdeal.τ).loc Cert.GmlpOutIdeal.main_arg3)
      ∧ m' ((c.tc : Thread Cert.GmlpOutReferenceIdeal.nD Cert.GmlpOutReferenceIdeal.τ).loc Cert.GmlpOutReferenceIdeal.main_arg4) = m ((c.tc : Thread Cert.GmlpOutIdeal.nD Cert.GmlpOutIdeal.τ).loc Cert.GmlpOutIdeal.main_arg4)
      ∧ m' ((c.tc : Thread Cert.GmlpOutReferenceIdeal.nD Cert.GmlpOutReferenceIdeal.τ).loc Cert.GmlpOutReferenceIdeal.main_arg5) = m ((c.tc : Thread Cert.GmlpOutIdeal.nD Cert.GmlpOutIdeal.τ).loc Cert.GmlpOutIdeal.main_arg5)) →
    ∃ (v0 : (c : Dev Cert.GmlpOutIdeal.nD) → Buf (Elt Ideal) ((c.tc : Thread Cert.GmlpOutIdeal.nD Cert.GmlpOutIdeal.τ).loc Cert.GmlpOutIdeal.main_v7)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v7) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
          ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2)
          ∧ r.2.mem ((c.tc : Thread Cert.GmlpOutIdeal.nD Cert.GmlpOutIdeal.τ).loc Cert.GmlpOutIdeal.main_arg3) = m ((c.tc : Thread Cert.GmlpOutIdeal.nD Cert.GmlpOutIdeal.τ).loc Cert.GmlpOutIdeal.main_arg3)
          ∧ r.2.mem ((c.tc : Thread Cert.GmlpOutIdeal.nD Cert.GmlpOutIdeal.τ).loc Cert.GmlpOutIdeal.main_arg4) = m ((c.tc : Thread Cert.GmlpOutIdeal.nD Cert.GmlpOutIdeal.τ).loc Cert.GmlpOutIdeal.main_arg4)
          ∧ r.2.mem ((c.tc : Thread Cert.GmlpOutIdeal.nD Cert.GmlpOutIdeal.τ).loc Cert.GmlpOutIdeal.main_arg5) = m ((c.tc : Thread Cert.GmlpOutIdeal.nD Cert.GmlpOutIdeal.τ).loc Cert.GmlpOutIdeal.main_arg5))
      ∧ θ_run (Cert.GmlpOutReferenceIdeal.defs (F := Ideal)) (onTc (τ := Cert.GmlpOutReferenceIdeal.τ) (Cert.GmlpOutReferenceIdeal.main (F := Ideal))) ⟨m', fun _ => 0, g'⟩ (fun r => ∀ c : Dev Cert.GmlpOutReferenceIdeal.nD,
          r.2.mem ((c.tc : Thread Cert.GmlpOutReferenceIdeal.nD Cert.GmlpOutReferenceIdeal.τ).loc Cert.GmlpOutReferenceIdeal.main_v17) = v0 c
          ∧ r.2.mem ((c.tc : Thread Cert.GmlpOutReferenceIdeal.nD Cert.GmlpOutReferenceIdeal.τ).loc Cert.GmlpOutReferenceIdeal.main_arg0) = m' ((c.tc : Thread Cert.GmlpOutReferenceIdeal.nD Cert.GmlpOutReferenceIdeal.τ).loc Cert.GmlpOutReferenceIdeal.main_arg0)
          ∧ r.2.mem ((c.tc : Thread Cert.GmlpOutReferenceIdeal.nD Cert.GmlpOutReferenceIdeal.τ).loc Cert.GmlpOutReferenceIdeal.main_arg1) = m' ((c.tc : Thread Cert.GmlpOutReferenceIdeal.nD Cert.GmlpOutReferenceIdeal.τ).loc Cert.GmlpOutReferenceIdeal.main_arg1)
          ∧ r.2.mem ((c.tc : Thread Cert.GmlpOutReferenceIdeal.nD Cert.GmlpOutReferenceIdeal.τ).loc Cert.GmlpOutReferenceIdeal.main_arg2) = m' ((c.tc : Thread Cert.GmlpOutReferenceIdeal.nD Cert.GmlpOutReferenceIdeal.τ).loc Cert.GmlpOutReferenceIdeal.main_arg2)
          ∧ r.2.mem ((c.tc : Thread Cert.GmlpOutReferenceIdeal.nD Cert.GmlpOutReferenceIdeal.τ).loc Cert.GmlpOutReferenceIdeal.main_arg3) = m' ((c.tc : Thread Cert.GmlpOutReferenceIdeal.nD Cert.GmlpOutReferenceIdeal.τ).loc Cert.GmlpOutReferenceIdeal.main_arg3)
          ∧ r.2.mem ((c.tc : Thread Cert.GmlpOutReferenceIdeal.nD Cert.GmlpOutReferenceIdeal.τ).loc Cert.GmlpOutReferenceIdeal.main_arg4) = m' ((c.tc : Thread Cert.GmlpOutReferenceIdeal.nD Cert.GmlpOutReferenceIdeal.τ).loc Cert.GmlpOutReferenceIdeal.main_arg4)
          ∧ r.2.mem ((c.tc : Thread Cert.GmlpOutReferenceIdeal.nD Cert.GmlpOutReferenceIdeal.τ).loc Cert.GmlpOutReferenceIdeal.main_arg5) = m' ((c.tc : Thread Cert.GmlpOutReferenceIdeal.nD Cert.GmlpOutReferenceIdeal.τ).loc Cert.GmlpOutReferenceIdeal.main_arg5))

def preserves_Route_RouteIdeal : Prop :=
  True

def algebraic_RouteIdeal_RouteReferenceIdeal_pre_finite [hRouteIdeal : Cert.RouteIdeal.Facts] [hRouteReferenceIdeal : Cert.RouteReferenceIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_finite m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v2_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v2_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v14) = v0 c
          ∧ r.2.mem ((c.tc : Thread Cert.RouteReferenceIdeal.nD Cert.RouteReferenceIdeal.τ).loc Cert.RouteReferenceIdeal.main_v26) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v40) = v0 c
          ∧ r.2.mem ((c.tc : Thread Cert.PrepReferenceIdeal.nD Cert.PrepReferenceIdeal.τ).loc Cert.PrepReferenceIdeal.main_v41) = v1 c
          ∧ r.2.mem ((c.tc : Thread Cert.PrepReferenceIdeal.nD Cert.PrepReferenceIdeal.τ).loc Cert.PrepReferenceIdeal.main_v8) = v2 c
          ∧ r.2.mem ((c.tc : Thread Cert.PrepReferenceIdeal.nD Cert.PrepReferenceIdeal.τ).loc Cert.PrepReferenceIdeal.main_v12) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Rglru_RglruIdeal : Prop :=
  True

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hGmlpIn : Cert.GmlpIn.Facts) (hGmlpInIdeal : Cert.GmlpInIdeal.Facts) (hGmlpInReferenceIdeal : Cert.GmlpInReferenceIdeal.Facts) (hGmlpOut : Cert.GmlpOut.Facts) (hGmlpOutIdeal : Cert.GmlpOutIdeal.Facts) (hGmlpOutReferenceIdeal : Cert.GmlpOutReferenceIdeal.Facts) (hRoute : Cert.Route.Facts) (hRouteIdeal : Cert.RouteIdeal.Facts) (hRouteReferenceIdeal : Cert.RouteReferenceIdeal.Facts) (hPrep : Cert.Prep.Facts) (hPrepIdeal : Cert.PrepIdeal.Facts) (hPrepReferenceIdeal : Cert.PrepReferenceIdeal.Facts) (hRglru : Cert.Rglru.Facts) (hRglruIdeal : Cert.RglruIdeal.Facts) (hPre_experts_in_range : Cert.Pre_experts_in_range.Facts) (hPre_finite : Cert.Pre_finite.Facts) (hOn_routed_rows : Cert.On_routed_rows.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_GmlpIn (hGmlpIn := hGmlpIn)
    ∧ quiescent_GmlpInIdeal (hGmlpInIdeal := hGmlpInIdeal)
    ∧ quiescent_GmlpInReferenceIdeal (hGmlpInReferenceIdeal := hGmlpInReferenceIdeal)
    ∧ quiescent_GmlpOut (hGmlpOut := hGmlpOut)
    ∧ quiescent_GmlpOutIdeal (hGmlpOutIdeal := hGmlpOutIdeal)
    ∧ quiescent_GmlpOutReferenceIdeal (hGmlpOutReferenceIdeal := hGmlpOutReferenceIdeal)
    ∧ quiescent_Route (hRoute := hRoute)
    ∧ quiescent_RouteIdeal (hRouteIdeal := hRouteIdeal)
    ∧ quiescent_RouteIdeal_pre_finite (hRouteIdeal := hRouteIdeal) (hPre_finite := hPre_finite)
    ∧ quiescent_RouteReferenceIdeal (hRouteReferenceIdeal := hRouteReferenceIdeal)
    ∧ quiescent_RouteReferenceIdeal_pre_finite (hRouteReferenceIdeal := hRouteReferenceIdeal) (hPre_finite := hPre_finite)
    ∧ quiescent_Prep (hPrep := hPrep)
    ∧ quiescent_PrepIdeal (hPrepIdeal := hPrepIdeal)
    ∧ quiescent_PrepReferenceIdeal (hPrepReferenceIdeal := hPrepReferenceIdeal)
    ∧ quiescent_Rglru (hRglru := hRglru)
    ∧ quiescent_RglruIdeal (hRglruIdeal := hRglruIdeal)
    ∧ preserves_Kernel_KernelIdeal
    ∧ algebraic_KernelIdeal_ReferenceIdeal_on_routed_rows (hKernelIdeal := hKernelIdeal) (hReferenceIdeal := hReferenceIdeal) (hPre_experts_in_range := hPre_experts_in_range) (hOn_routed_rows := hOn_routed_rows)
    ∧ preserves_Dense_DenseIdeal
    ∧ algebraic_DenseIdeal_DenseReferenceIdeal (hDenseIdeal := hDenseIdeal) (hDenseReferenceIdeal := hDenseReferenceIdeal)
    ∧ preserves_GmlpIn_GmlpInIdeal
    ∧ algebraic_GmlpInIdeal_GmlpInReferenceIdeal (hGmlpInIdeal := hGmlpInIdeal) (hGmlpInReferenceIdeal := hGmlpInReferenceIdeal)
    ∧ preserves_GmlpOut_GmlpOutIdeal
    ∧ algebraic_GmlpOutIdeal_GmlpOutReferenceIdeal (hGmlpOutIdeal := hGmlpOutIdeal) (hGmlpOutReferenceIdeal := hGmlpOutReferenceIdeal)
    ∧ preserves_Route_RouteIdeal
    ∧ algebraic_RouteIdeal_RouteReferenceIdeal_pre_finite (hRouteIdeal := hRouteIdeal) (hRouteReferenceIdeal := hRouteReferenceIdeal) (hPre_finite := hPre_finite)
    ∧ preserves_Prep_PrepIdeal
    ∧ algebraic_PrepIdeal_PrepReferenceIdeal (hPrepIdeal := hPrepIdeal) (hPrepReferenceIdeal := hPrepReferenceIdeal)
    ∧ preserves_Rglru_RglruIdeal
-- ==== On_routed_rows.lean ====
abbrev S40 : Shape := ⟨1, ![40]⟩
abbrev S1 : Shape := ⟨1, ![1]⟩
abbrev S40960x1024 : Shape := ⟨2, ![40960, 1024]⟩
abbrev S1024 : Shape := ⟨1, ![1024]⟩
abbrev S2x8x1024x7168 : Shape := ⟨4, ![2, 8, 1024, 7168]⟩
abbrev S2x8x3584x1024 : Shape := ⟨4, ![2, 8, 3584, 1024]⟩
abbrev S40x1024 : Shape := ⟨2, ![40, 1024]⟩
abbrev S40960 : Shape := ⟨1, ![40960]⟩
abbrev S40960x1 : Shape := ⟨2, ![40960, 1]⟩
abbrev S_ : Shape := ⟨0, ![]⟩

class Facts : Prop where
  bcast_S40_S40x1024_0 : S40.BroadcastsInDim S40x1024 (![0] : Fin 1 → Fin S40x1024.rank)
  shapeCasts_S40x1024_S40960 : S40x1024.ShapeCasts S40960
  bcast_S40960_S40960x1_0 : S40960.BroadcastsInDim S40960x1 (![0] : Fin 1 → Fin S40960x1.rank)
  bcast_S40960x1_S40960x1024_0_1 : S40960x1.BroadcastsInDim S40960x1024 (![0, 1] : Fin 2 → Fin S40960x1024.rank)
  bcast_S_S40960x1024 : S_.BroadcastsInDim S40960x1024 (![] : Fin 0 → Fin S40960x1024.rank)
  shapeCasts_S1_S_ : S1.ShapeCasts S_

variable [Facts]

def fn_where {F : FTy → Type} [FloatOps F] (arg0 : IVec S40960x1024 1) (arg1 : IVec S40960x1024 32) (arg2 : IVec S40960x1024 32) : IVec S40960x1024 32 :=
  let v0 : IVec S40960x1024 32 := select arg0 arg1 arg2
  v0

def fn_floor_divide {F : FTy → Type} [FloatOps F] (arg0 : IVec S40960x1024 32) (arg1 : IVec S_ 32) : IVec S40960x1024 32 :=
  let v0 : IVec S_ 32 := id arg1
  let v1 : IVec S40960x1024 32 := broadcastInDim S40960x1024 ![] bcast_S_S40960x1024 v0
  let v2 : IVec S40960x1024 32 := Host.divsi arg0 v1
  let v3 : IVec S40960x1024 32 := signi arg0
  let v4 : IVec S_ 32 := signi v0
  let v5 : IVec S40960x1024 32 := broadcastInDim S40960x1024 ![] bcast_S_S40960x1024 v4
  let v6 : IVec S40960x1024 1 := cmpi .ne v3 v5
  let v7 : IVec S40960x1024 32 := broadcastInDim S40960x1024 ![] bcast_S_S40960x1024 v0
  let v8 : IVec S40960x1024 32 := Host.remsi arg0 v7
  let c : IVec S_ 32 := constantI S_ 32 0#32
  let v9 : IVec S40960x1024 32 := broadcastInDim S40960x1024 ![] bcast_S_S40960x1024 c
  let v10 : IVec S40960x1024 1 := cmpi .ne v8 v9
  let v11 : IVec S40960x1024 1 := andi v6 v10
  let c_0 : IVec S_ 32 := constantI S_ 32 1#32
  let v12 : IVec S40960x1024 32 := broadcastInDim S40960x1024 ![] bcast_S_S40960x1024 c_0
  let v13 : IVec S40960x1024 32 := subi v2 v12
  let v14 : IVec S40960x1024 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S40960x1024 32) (arg1 : IVec S_ 32) : IVec S40960x1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S40960x1024 32 := broadcastInDim S40960x1024 ![] bcast_S_S40960x1024 v2
  let v4 : IVec S40960x1024 32 := Host.remsi arg0 v3
  let c_1 : IVec S_ 32 := constantI S_ 32 0#32
  let v5 : IVec S40960x1024 32 := broadcastInDim S40960x1024 ![] bcast_S_S40960x1024 c_1
  let v6 : IVec S40960x1024 1 := cmpi .ne v4 v5
  let c_2 : IVec S_ 32 := constantI S_ 32 0#32
  let v7 : IVec S40960x1024 32 := broadcastInDim S40960x1024 ![] bcast_S_S40960x1024 c_2
  let v8 : IVec S40960x1024 1 := cmpi .slt v4 v7
  let c_3 : IVec S_ 32 := constantI S_ 32 0#32
  let v9 : IVec S_ 1 := cmpi .slt v2 c_3
  let v10 : IVec S40960x1024 1 := broadcastInDim S40960x1024 ![] bcast_S_S40960x1024 v9
  let v11 : IVec S40960x1024 1 := cmpi .ne v8 v10
  let v12 : IVec S40960x1024 1 := andi v11 v6
  let v13 : IVec S40960x1024 32 := broadcastInDim S40960x1024 ![] bcast_S_S40960x1024 v2
  let v14 : IVec S40960x1024 32 := addi v4 v13
  let v15 : IVec S40960x1024 32 := select v12 v14 v4
  v15

def fn {F : FTy → Type} [FloatOps F] (main_arg0 : IVec S40 32) (main_arg1 : IVec S1 32) (main_arg2 : IVec S40 32) (main_arg3 : FVec F S40960x1024 .f32) (main_arg4 : FVec F S1024 .f32) (main_arg5 : FVec F S2x8x1024x7168 .f32) (main_arg6 : FVec F S2x8x3584x1024 .f32) : IVec S40960x1024 1 :=
  let main_v0 : IVec S40960x1024 32 := iotaInDim S40960x1024 32 0
  let main_v1 : IVec S40x1024 32 := broadcastInDim S40x1024 ![0] bcast_S40_S40x1024_0 main_arg2
  let main_v2 : IVec S40960 32 := shapeCast S40960 main_v1 shapeCasts_S40x1024_S40960
  let main_v3 : IVec S40960x1 32 := broadcastInDim S40960x1 ![0] bcast_S40960_S40960x1_0 main_v2
  let main_v4 : IVec S40960x1024 32 := broadcastInDim S40960x1024 ![0, 1] bcast_S40960x1_S40960x1024_0_1 main_v3
  let main_c : IVec S_ 32 := constantI S_ 32 1024#32
  let main_v5 : IVec S40960x1024 32 := fn_floor_divide (F := F) main_v0 main_c
  let main_v6 : IVec S_ 32 := shapeCast S_ main_arg1 shapeCasts_S1_S_
  let main_v7 : IVec S40960x1024 32 := broadcastInDim S40960x1024 ![] bcast_S_S40960x1024 main_v6
  let main_v8 : IVec S40960x1024 1 := cmpi .slt main_v5 main_v7
  let main_c_0 : IVec S_ 32 := constantI S_ 32 1024#32
  let main_v9 : IVec S40960x1024 32 := fn_remainder (F := F) main_v0 main_c_0
  let main_v10 : IVec S40960x1024 1 := cmpi .slt main_v9 main_v4
  let main_v11 : IVec S40960x1024 1 := andi main_v8 main_v10
  main_v11
-- ==== Pre_experts_in_range.lean ====
abbrev S40 : Shape := ⟨1, ![40]⟩
abbrev S1 : Shape := ⟨1, ![1]⟩
abbrev S40960x1024 : Shape := ⟨2, ![40960, 1024]⟩
abbrev S1024 : Shape := ⟨1, ![1024]⟩
abbrev S2x8x1024x7168 : Shape := ⟨4, ![2, 8, 1024, 7168]⟩
abbrev S2x8x3584x1024 : Shape := ⟨4, ![2, 8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : IVec S40 32) (main_arg3 : FVec F S40960x1024 .f32) (main_arg4 : FVec F S1024 .f32) (main_arg5 : FVec F S2x8x1024x7168 .f32) (main_arg6 : FVec F S2x8x3584x1024 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== Pre_finite.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S16384x1024 .f32) (main_arg1 : FVec F S1024 .f32) (main_arg2 : FVec F S1024x8 .f32) : IVec S16384x1024 1 × IVec S1024 1 × IVec S1024x8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x8 .f32 := Host.absf main_arg2
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  (main_v2, main_v5, main_v8)
-- ==== Kernel.lean ====
abbrev S40 : Shape := ⟨1, ![40]⟩
abbrev S1 : Shape := ⟨1, ![1]⟩
abbrev S40960x1024 : Shape := ⟨2, ![40960, 1024]⟩
abbrev S1024 : Shape := ⟨1, ![1024]⟩
abbrev S2x8x1024x7168 : Shape := ⟨4, ![2, 8, 1024, 7168]⟩
abbrev S2x8x3584x1024 : Shape := ⟨4, ![2, 8, 3584, 1024]⟩
abbrev S1x1024 : Shape := ⟨2, ![1, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x1 : Shape := ⟨2, ![1024, 1]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 6
  | .vmem => 12
  | .smem => 3
  | _ => 0

abbrev bufTy : (tb : Table) → Fin (tcTables nBuf tb) → BufTy
  | .hbm, ⟨0, _⟩ => ⟨S40960x1024, .f32⟩
  | .hbm, ⟨1, _⟩ => ⟨S1024, .f32⟩
  | .hbm, ⟨2, _⟩ => ⟨S2x8x1024x7168, .f32⟩
  | .hbm, ⟨3, _⟩ => ⟨S2x8x3584x1024, .f32⟩
  | .hbm, ⟨4, _⟩ => ⟨S1x1024, .f32⟩
  | .hbm, ⟨5, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .smem, ⟨0, _⟩ => ⟨S40, .i32⟩
  | .local _ .smem, ⟨1, _⟩ => ⟨S1, .i32⟩
  | .local _ .smem, ⟨2, _⟩ => ⟨S40, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![40, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let v15 : Index := Scalar.indexCast arg0
  ![v15.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond3 (i : grid0.Coords) (v0 : BitVec 32) (v10 : BitVec 32) : BitVec 1 :=
  let arg0 : BitVec 32 := BitVec.ofNat 32 (i 0).val
  let v1 : BitVec 1 := Scalar.cmpi .slt arg0 v0
  let c512_i32 : BitVec 32 := 512#32
  let v11 : BitVec 1 := Scalar.cmpi .sgt v10 c512_i32
  let v12 : BitVec 1 := Scalar.andi v1 v11
  let v13 : BitVec 32 := Scalar.extui v12
  let c0_i32_3 : BitVec 32 := 0#32
  let v14 : BitVec 1 := Scalar.cmpi .ne v13 c0_i32_3
  v14

def k0_cond4 (i : grid0.Coords) (v0 : BitVec 32) (v16 : BitVec 32) : BitVec 1 :=
  let arg0 : BitVec 32 := BitVec.ofNat 32 (i 0).val
  let v1 : BitVec 1 := Scalar.cmpi .slt arg0 v0
  let c512_i32_4 : BitVec 32 := 512#32
  let v17 : BitVec 1 := Scalar.cmpi .sle v16 c512_i32_4
  let v18 : BitVec 1 := Scalar.andi v1 v17
  let v19 : BitVec 32 := Scalar.extui v18
  let c0_i32_5 : BitVec 32 := 0#32
  let v20 : BitVec 1 := Scalar.cmpi .ne v19 c0_i32_5
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_i32 : BitVec 32 := 0#32
  let v2 : BitVec 32 := Scalar.select v1 arg0 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  let c0_i32_1 : BitVec 32 := 0#32
  ![c0_i32.toNat, v1.toNat, c0_i32_0.toNat, v5.toNat]

def cc0_transform_4 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S40 : Shape := ⟨1, ![40]⟩
abbrev S1 : Shape := ⟨1, ![1]⟩
abbrev S40960x1024 : Shape := ⟨2, ![40960, 1024]⟩
abbrev S1024 : Shape := ⟨1, ![1024]⟩
abbrev S2x8x1024x7168 : Shape := ⟨4, ![2, 8, 1024, 7168]⟩
abbrev S2x8x3584x1024 : Shape := ⟨4, ![2, 8, 3584, 1024]⟩
abbrev S_ : Shape := ⟨0, ![]⟩
abbrev S40960 : Shape := ⟨1, ![40960]⟩
abbrev S40960x1 : Shape := ⟨2, ![40960, 1]⟩
abbrev S1x1024 : Shape := ⟨2, ![1, 1024]⟩
abbrev S40x1024 : Shape := ⟨2, ![40, 1024]⟩
abbrev S1x8 : Shape := ⟨2, ![1, 8]⟩
abbrev S40960x8 : Shape := ⟨2, ![40960, 8]⟩
abbrev S1x1x1024x7168 : Shape := ⟨4, ![1, 1, 1024, 7168]⟩
abbrev S1024x7168 : Shape := ⟨2, ![1024, 7168]⟩
abbrev S1x1x3584x1024 : Shape := ⟨4, ![1, 1, 3584, 1024]⟩
abbrev S3584x1024 : Shape := ⟨2, ![3584, 1024]⟩
abbrev S40960x7168 : Shape := ⟨2, ![40960, 7168]⟩
abbrev S40960x3584 : Shape := ⟨2, ![40960, 3584]⟩

abbrev nBuf : Space → Nat
  | .hbm => 209
  | .vmem => 0
  | .smem => 0
  | _ => 0

abbrev hbmTy0_0 (i : Nat) : BufTy := match i % 128 with
  | 0 => ⟨S40, .i32⟩
  | 1 => ⟨S1, .i32⟩
  | 2 => ⟨S40, .i32⟩
  | 3 => ⟨S40960x1024, .f32⟩
  | 4 => ⟨S1024, .f32⟩
  | 5 => ⟨S2x8x1024x7168, .f32⟩
  | 6 => ⟨S2x8x3584x1024, .f32⟩
  | 7 => ⟨S40960x1024, .f32⟩
  | 8 => ⟨S_, .f32⟩
  | 9 => ⟨S40960, .f32⟩
  | 10 => ⟨S40960x1, .f32⟩
  | 11 => ⟨S_, .f32⟩
  | 12 => ⟨S40960x1, .f32⟩
  | 13 => ⟨S40960x1, .f32⟩
  | 14 => ⟨S_, .f32⟩
  | 15 => ⟨S40960x1, .f32⟩
  | 16 => ⟨S40960x1, .f32⟩
  | 17 => ⟨S40960x1, .f32⟩
  | 18 => ⟨S40960x1024, .f32⟩
  | 19 => ⟨S40960x1024, .f32⟩
  | 20 => ⟨S1x1024, .f32⟩
  | 21 => ⟨S40960x1024, .f32⟩
  | 22 => ⟨S40960x1024, .f32⟩
  | 23 => ⟨S40x1024, .i32⟩
  | 24 => ⟨S40960, .i32⟩
  | 25 => ⟨S40960x1, .i32⟩
  | 26 => ⟨S1x8, .i32⟩
  | 27 => ⟨S40960x8, .i32⟩
  | 28 => ⟨S40960x8, .i32⟩
  | 29 => ⟨S40960x8, .i1⟩
  | 30 => ⟨S40960x8, .f32⟩
  | 31 => ⟨S_, .f32⟩
  | 32 => ⟨S40960x1024, .f32⟩
  | 33 => ⟨S40960x1, .f32⟩
  | 34 => ⟨S1x1x1024x7168, .f32⟩
  | 35 => ⟨S1024x7168, .f32⟩
  | 36 => ⟨S1x1x3584x1024, .f32⟩
  | 37 => ⟨S3584x1024, .f32⟩
  | 38 => ⟨S40960x7168, .f32⟩
  | 39 => ⟨S40960x3584, .f32⟩
  | 40 => ⟨S40960x3584, .f32⟩
  | 41 => ⟨S40960x3584, .f32⟩
  | 42 => ⟨S40960x3584, .f32⟩
  | 43 => ⟨S_, .f32⟩
  | 44 => ⟨S40960x3584, .f32⟩
  | 45 => ⟨S40960x3584, .f32⟩
  | 46 => ⟨S_, .f32⟩
  | 47 => ⟨S40960x3584, .f32⟩
  | 48 => ⟨S40960x3584, .f32⟩
  | 49 => ⟨S40960x3584, .f32⟩
  | 50 => ⟨S40960x3584, .f32⟩
  | 51 => ⟨S40960x1024, .f32⟩
  | 52 => ⟨S40960x1024, .f32⟩
  | 53 => ⟨S40960x1024, .f32⟩
  | 54 => ⟨S40960x1024, .f32⟩
  | 55 => ⟨S40960x1, .f32⟩
  | 56 => ⟨S1x1x1024x7168, .f32⟩
  | 57 => ⟨S1024x7168, .f32⟩
  | 58 => ⟨S1x1x3584x1024, .f32⟩
  | 59 => ⟨S3584x1024, .f32⟩
  | 60 => ⟨S40960x7168, .f32⟩
  | 61 => ⟨S40960x3584, .f32⟩
  | 62 => ⟨S40960x3584, .f32⟩
  | 63 => ⟨S40960x3584, .f32⟩
  | 64 => ⟨S40960x3584, .f32⟩
  | 65 => ⟨S_, .f32⟩
  | 66 => ⟨S40960x3584, .f32⟩
  | 67 => ⟨S40960x3584, .f32⟩
  | 68 => ⟨S_, .f32⟩
  | 69 => ⟨S40960x3584, .f32⟩
  | 70 => ⟨S40960x3584, .f32⟩
  | 71 => ⟨S40960x3584, .f32⟩
  | 72 => ⟨S40960x3584, .f32⟩
  | 73 => ⟨S40960x1024, .f32⟩
  | 74 => ⟨S40960x1024, .f32⟩
  | 75 => ⟨S40960x1024, .f32⟩
  | 76 => ⟨S40960x1024, .f32⟩
  | 77 => ⟨S40960x1, .f32⟩
  | 78 => ⟨S1x1x1024x7168, .f32⟩
  | 79 => ⟨S1024x7168, .f32⟩
  | 80 => ⟨S1x1x3584x1024, .f32⟩
  | 81 => ⟨S3584x1024, .f32⟩
  | 82 => ⟨S40960x7168, .f32⟩
  | 83 => ⟨S40960x3584, .f32⟩
  | 84 => ⟨S40960x3584, .f32⟩
  | 85 => ⟨S40960x3584, .f32⟩
  | 86 => ⟨S40960x3584, .f32⟩
  | 87 => ⟨S_, .f32⟩
  | 88 => ⟨S40960x3584, .f32⟩
  | 89 => ⟨S40960x3584, .f32⟩
  | 90 => ⟨S_, .f32⟩
  | 91 => ⟨S40960x3584, .f32⟩
  | 92 => ⟨S40960x3584, .f32⟩
  | 93 => ⟨S40960x3584, .f32⟩
  | 94 => ⟨S40960x3584, .f32⟩
  | 95 => ⟨S40960x1024, .f32⟩
  | 96 => ⟨S40960x1024, .f32⟩
  | 97 => ⟨S40960x1024, .f32⟩
  | 98 => ⟨S40960x1024, .f32⟩
  | 99 => ⟨S40960x1, .f32⟩
  | 100 => ⟨S1x1x1024x7168, .f32⟩
  | 101 => ⟨S1024x7168, .f32⟩
  | 102 => ⟨S1x1x3584x1024, .f32⟩
  | 103 => ⟨S3584x1024, .f32⟩
  | 104 => ⟨S40960x7168, .f32⟩
  | 105 => ⟨S40960x3584, .f32⟩
  | 106 => ⟨S40960x3584, .f32⟩
  | 107 => ⟨S40960x3584, .f32⟩
  | 108 => ⟨S40960x3584, .f32⟩
  | 109 => ⟨S_, .f32⟩
  | 110 => ⟨S40960x3584, .f32⟩
  | 111 => ⟨S40960x3584, .f32⟩
  | 112 => ⟨S_, .f32⟩
  | 113 => ⟨S40960x3584, .f32⟩
  | 114 => ⟨S40960x3584, .f32⟩
  | 115 => ⟨S40960x3584, .f32⟩
  | 116 => ⟨S40960x3584, .f32⟩
  | 117 => ⟨S40960x1024, .f32⟩
  | 118 => ⟨S40960x1024, .f32⟩
  | 119 => ⟨S40960x1024, .f32⟩
  | 120 => ⟨S40960x1024, .f32⟩
  | 121 => ⟨S40960x1, .f32⟩
  | 122 => ⟨S1x1x1024x7168, .f32⟩
  | 123 => ⟨S1024x7168, .f32⟩
  | 124 => ⟨S1x1x3584x1024, .f32⟩
  | 125 => ⟨S3584x1024, .f32⟩
  | 126 => ⟨S40960x7168, .f32⟩
  | 127 => ⟨S40960x3584, .f32⟩
  | _ => ⟨S40, .i32⟩

abbrev hbmTy0_1 (i : Nat) : BufTy := match i % 128 with
  | 0 => ⟨S40960x3584, .f32⟩
  | 1 => ⟨S40960x3584, .f32⟩
  | 2 => ⟨S40960x3584, .f32⟩
  | 3 => ⟨S_, .f32⟩
  | 4 => ⟨S40960x3584, .f32⟩
  | 5 => ⟨S40960x3584, .f32⟩
  | 6 => ⟨S_, .f32⟩
  | 7 => ⟨S40960x3584, .f32⟩
  | 8 => ⟨S40960x3584, .f32⟩
  | 9 => ⟨S40960x3584, .f32⟩
  | 10 => ⟨S40960x3584, .f32⟩
  | 11 => ⟨S40960x1024, .f32⟩
  | 12 => ⟨S40960x1024, .f32⟩
  | 13 => ⟨S40960x1024, .f32⟩
  | 14 => ⟨S40960x1024, .f32⟩
  | 15 => ⟨S40960x1, .f32⟩
  | 16 => ⟨S1x1x1024x7168, .f32⟩
  | 17 => ⟨S1024x7168, .f32⟩
  | 18 => ⟨S1x1x3584x1024, .f32⟩
  | 19 => ⟨S3584x1024, .f32⟩
  | 20 => ⟨S40960x7168, .f32⟩
  | 21 => ⟨S40960x3584, .f32⟩
  | 22 => ⟨S40960x3584, .f32⟩
  | 23 => ⟨S40960x3584, .f32⟩
  | 24 => ⟨S40960x3584, .f32⟩
  | 25 => ⟨S_, .f32⟩
  | 26 => ⟨S40960x3584, .f32⟩
  | 27 => ⟨S40960x3584, .f32⟩
  | 28 => ⟨S_, .f32⟩
  | 29 => ⟨S40960x3584, .f32⟩
  | 30 => ⟨S40960x3584, .f32⟩
  | 31 => ⟨S40960x3584, .f32⟩
  | 32 => ⟨S40960x3584, .f32⟩
  | 33 => ⟨S40960x1024, .f32⟩
  | 34 => ⟨S40960x1024, .f32⟩
  | 35 => ⟨S40960x1024, .f32⟩
  | 36 => ⟨S40960x1024, .f32⟩
  | 37 => ⟨S40960x1, .f32⟩
  | 38 => ⟨S1x1x1024x7168, .f32⟩
  | 39 => ⟨S1024x7168, .f32⟩
  | 40 => ⟨S1x1x3584x1024, .f32⟩
  | 41 => ⟨S3584x1024, .f32⟩
  | 42 => ⟨S40960x7168, .f32⟩
  | 43 => ⟨S40960x3584, .f32⟩
  | 44 => ⟨S40960x3584, .f32⟩
  | 45 => ⟨S40960x3584, .f32⟩
  | 46 => ⟨S40960x3584, .f32⟩
  | 47 => ⟨S_, .f32⟩
  | 48 => ⟨S40960x3584, .f32⟩
  | 49 => ⟨S40960x3584, .f32⟩
  | 50 => ⟨S_, .f32⟩
  | 51 => ⟨S40960x3584, .f32⟩
  | 52 => ⟨S40960x3584, .f32⟩
  | 53 => ⟨S40960x3584, .f32⟩
  | 54 => ⟨S40960x3584, .f32⟩
  | 55 => ⟨S40960x1024, .f32⟩
  | 56 => ⟨S40960x1024, .f32⟩
  | 57 => ⟨S40960x1024, .f32⟩
  | 58 => ⟨S40960x1024, .f32⟩
  | 59 => ⟨S40960x1, .f32⟩
  | 60 => ⟨S1x1x1024x7168, .f32⟩
  | 61 => ⟨S1024x7168, .f32⟩
  | 62 => ⟨S1x1x3584x1024, .f32⟩
  | 63 => ⟨S3584x1024, .f32⟩
  | 64 => ⟨S40960x7168, .f32⟩
  | 65 => ⟨S40960x3584, .f32⟩
  | 66 => ⟨S40960x3584, .f32⟩
  | 67 => ⟨S40960x3584, .f32⟩
  | 68 => ⟨S40960x3584, .f32⟩
  | 69 => ⟨S_, .f32⟩
  | 70 => ⟨S40960x3584, .f32⟩
  | 71 => ⟨S40960x3584, .f32⟩
  | 72 => ⟨S_, .f32⟩
  | 73 => ⟨S40960x3584, .f32⟩
  | 74 => ⟨S40960x3584, .f32⟩
  | 75 => ⟨S40960x3584, .f32⟩
  | 76 => ⟨S40960x3584, .f32⟩
  | 77 => ⟨S40960x1024, .f32⟩
  | 78 => ⟨S40960x1024, .f32⟩
  | 79 => ⟨S40960x1024, .f32⟩
  | 80 => ⟨S40960x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call4_v0 : Ref sig .tc := ⟨.hbm, 107, rfl⟩
abbrev main_call4_v1 : Ref sig .tc := ⟨.hbm, 108, rfl⟩
abbrev main_call4_cst : Ref sig .tc := ⟨.hbm, 109, rfl⟩
abbrev main_call4_v2 : Ref sig .tc := ⟨.hbm, 110, rfl⟩
abbrev main_call4_v3 : Ref sig .tc := ⟨.hbm, 111, rfl⟩
abbrev main_call4_cst_0 : Ref sig .tc := ⟨.hbm, 112, rfl⟩
abbrev main_call4_v4 : Ref sig .tc := ⟨.hbm, 113, rfl⟩
abbrev main_call4_v5 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call5_v0 : Ref sig .tc := ⟨.hbm, 129, rfl⟩
abbrev main_call5_v1 : Ref sig .tc := ⟨.hbm, 130, rfl⟩
abbrev main_call5_cst : Ref sig .tc := ⟨.hbm, 131, rfl⟩
abbrev main_call5_v2 : Ref sig .tc := ⟨.hbm, 132, rfl⟩
abbrev main_call5_v3 : Ref sig .tc := ⟨.hbm, 133, rfl⟩
abbrev main_call5_cst_0 : Ref sig .tc := ⟨.hbm, 134, rfl⟩
abbrev main_call5_v4 : Ref sig .tc := ⟨.hbm, 135, rfl⟩
abbrev main_call5_v5 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩

abbrev nD : Nat := 1
abbrev τ : Topo := Topo.v7x

variable {F : FTy → Type} [FloatOps F]
-- ==== Dense.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DenseReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== GmlpIn.lean ====
abbrev S16384x1024 : Shape := ⟨2, ![16384, 1024]⟩
abbrev S1024 : Shape := ⟨1, ![1024]⟩
abbrev S1024x4096 : Shape := ⟨2, ![1024, 4096]⟩
abbrev S2048 : Shape := ⟨1, ![2048]⟩
abbrev S1x1024 : Shape := ⟨2, ![1, 1024]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S1x1024, .f32⟩
  | .hbm, ⟨6, _⟩ => ⟨S1024x4096, .bf16⟩
  | .hbm, ⟨7, _⟩ => ⟨S1x2048, .f32⟩
  | .hbm, ⟨8, _⟩ => ⟨S1x2048, .f32⟩
  | .hbm, ⟨9, _⟩ => ⟨S16384x2048, .bf16⟩
  | .hbm, ⟨10, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpInIdeal.lean ====
variable {F : FTy → Type} [FloatOps F] [Named F]
def κ : String → Option EReal := fun
  | "folded" => some ((80338380498831 / 2251799813685248 : ℝ) : EReal)
  | _ => none
-- ==== GmlpInReferenceIdeal.lean ====
abbrev S16384x1024 : Shape := ⟨2, ![16384, 1024]⟩
abbrev S1024 : Shape := ⟨1, ![1024]⟩
abbrev S1024x4096 : Shape := ⟨2, ![1024, 4096]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S16384x2048 : Shape := ⟨2, ![16384, 2048]⟩
abbrev S1x2048 : Shape := ⟨2, ![1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x2048, .f32⟩
  | .hbm, ⟨40, _⟩ => ⟨S16384x2048, .f32⟩
  | .hbm, ⟨41, _⟩ => ⟨S16384x2048, .bf16⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | .hbm, ⟨69, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== GmlpOut.lean ====
abbrev S16384x2048 : Shape := ⟨2, ![16384, 2048]⟩
abbrev S8x128x128 : Shape := ⟨3, ![8, 128, 128]⟩
abbrev S8x128 : Shape := ⟨2, ![8, 128]⟩
abbrev S2048x1024 : Shape := ⟨2, ![2048, 1024]⟩
abbrev S16384x1024 : Shape := ⟨2, ![16384, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S512x2048 : Shape := ⟨2, ![512, 2048]⟩
abbrev S512x1024 : Shape := ⟨2, ![512, 1024]⟩
abbrev S128x256 : Shape := ⟨2, ![128, 256]⟩
abbrev S128x1 : Shape := ⟨2, ![128, 1]⟩

abbrev nBuf : Space → Nat
  | .hbm => 27
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8x128x128, .f32⟩
  | .hbm, ⟨3, _⟩ => ⟨S8x128, .f32⟩
  | .hbm, ⟨4, _⟩ => ⟨S2048x1024, .f32⟩
  | .hbm, ⟨5, _⟩ => ⟨S16384x1024, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S128x8, .f32⟩
  | .hbm, ⟨25, _⟩ => ⟨S2048x1024, .bf16⟩
  | .hbm, ⟨26, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128x128, .bf16⟩
  | .local _ .vmem, ⟨5, _⟩ => ⟨S128x8, .f32⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpOutReferenceIdeal.lean ====
abbrev S16384x2048 : Shape := ⟨2, ![16384, 2048]⟩
abbrev S8x128x128 : Shape := ⟨3, ![8, 128, 128]⟩
abbrev S8x128 : Shape := ⟨2, ![8, 128]⟩
abbrev S2048x1024 : Shape := ⟨2, ![2048, 1024]⟩
abbrev S16384x1024 : Shape := ⟨2, ![16384, 1024]⟩
abbrev S8x16x128x8x256 : Shape := ⟨5, ![8, 16, 128, 8, 256]⟩
abbrev S_ : Shape := ⟨0, ![]⟩
abbrev S128x128 : Shape := ⟨2, ![128, 128]⟩
abbrev S1x128x128 : Shape := ⟨3, ![1, 128, 128]⟩
abbrev S8x8x16x256x128 : Shape := ⟨5, ![8, 8, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S8x128x128, .f32⟩
  | .hbm, ⟨3, _⟩ => ⟨S8x128, .f32⟩
  | .hbm, ⟨4, _⟩ => ⟨S2048x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S8x16x128x8x256, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S_, .f32⟩
  | .hbm, ⟨22, _⟩ => ⟨S_, .f32⟩
  | .hbm, ⟨23, _⟩ => ⟨S8x128x128, .i1⟩
  | .hbm, ⟨24, _⟩ => ⟨S8x128x128, .f32⟩
  | .hbm, ⟨25, _⟩ => ⟨S8x128x128, .f32⟩
  | .hbm, ⟨26, _⟩ => ⟨S8x8x16x256x128, .f32⟩
  | .hbm, ⟨27, _⟩ => ⟨S8x16x128x8x256, .f32⟩
  | .hbm, ⟨28, _⟩ => ⟨S128x8, .f32⟩
  | .hbm, ⟨29, _⟩ => ⟨S128x8x1, .f32⟩
  | .hbm, ⟨30, _⟩ => ⟨S1x1x128x8x1, .f32⟩
  | .hbm, ⟨31, _⟩ => ⟨S8x16x128x8x256, .f32⟩
  | .hbm, ⟨32, _⟩ => ⟨S8x16x128x8x256, .f32⟩
  | .hbm, ⟨33, _⟩ => ⟨S16384x2048, .f32⟩
  | .hbm, ⟨34, _⟩ => ⟨S16384x2048, .f32⟩
  | .hbm, ⟨35, _⟩ => ⟨S16384x1024, .f32⟩
  | .hbm, ⟨36, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Route.lean ====
abbrev S16384x1024 : Shape := ⟨2, ![16384, 1024]⟩
abbrev S1024 : Shape := ⟨1, ![1024]⟩
abbrev S1024x8 : Shape := ⟨2, ![1024, 8]⟩
abbrev S1x1024 : Shape := ⟨2, ![1, 1024]⟩
abbrev S8x1024 : Shape := ⟨2, ![8, 1024]⟩
abbrev S2x16384 : Shape := ⟨2, ![2, 16384]⟩
abbrev S16384x128 : Shape := ⟨2, ![16384, 128]⟩
abbrev S512x1024 : Shape := ⟨2, ![512, 1024]⟩
abbrev S2x512 : Shape := ⟨2, ![2, 512]⟩
abbrev S512x128 : Shape := ⟨2, ![512, 128]⟩
abbrev S512 : Shape := ⟨1, ![512]⟩
abbrev S512x1 : Shape := ⟨2, ![512, 1]⟩
abbrev S8x512 : Shape := ⟨2, ![8, 512]⟩
abbrev S1x512 : Shape := ⟨2, ![1, 512]⟩
abbrev S126x512 : Shape := ⟨2, ![126, 512]⟩
abbrev S128x512 : Shape := ⟨2, ![128, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S1x1024, .f32⟩
  | .hbm, ⟨4, _⟩ => ⟨S8x1024, .f32⟩
  | .hbm, ⟨5, _⟩ => ⟨S2x16384, .i32⟩
  | .hbm, ⟨6, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024, .f32⟩
  | .local _ .vmem, ⟨4, _⟩ => ⟨S2x512, .i32⟩
  | .local _ .vmem, ⟨5, _⟩ => ⟨S2x512, .i32⟩
  | .local _ .vmem, ⟨6, _⟩ => ⟨S512x128, .f32⟩
  | .local _ .vmem, ⟨7, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouteReferenceIdeal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S2x16384 : Shape := ⟨2, ![2, 16384]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S2x16384, .i32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x2, .f32⟩
  | .hbm, ⟨30, _⟩ => ⟨S16384x2, .f32⟩
  | .hbm, ⟨31, _⟩ => ⟨S16384x2, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x2, .f32⟩
  | .hbm, ⟨36, _⟩ => ⟨S16384x2, .f32⟩
  | .hbm, ⟨37, _⟩ => ⟨S_, .i32⟩
  | .hbm, ⟨38, _⟩ => ⟨S_, .f32⟩
  | .hbm, ⟨39, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x16x64 : Shape := ⟨3, ![64, 16, 64]⟩
abbrev S64x1x64 : Shape := ⟨3, ![64, 1, 64]⟩

abbrev nBuf : Space → Nat
  | .hbm => 13
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S64x16x64, .f32⟩
  | .hbm, ⟨8, _⟩ => ⟨S64x16x64, .f32⟩
  | .hbm, ⟨9, _⟩ => ⟨S64x16x64, .f32⟩
  | .hbm, ⟨10, _⟩ => ⟨S64x16x64, .f32⟩
  | .hbm, ⟨11, _⟩ => ⟨S64x64, .f32⟩
  | .hbm, ⟨12, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S64x16x64, .f32⟩
  | .local _ .vmem, ⟨7, _⟩ => ⟨S64x64, .f32⟩
  | .local _ .vmem, ⟨8, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrepReferenceIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x16x64 : Shape := ⟨3, ![64, 16, 64]⟩

abbrev nBuf : Space → Nat
  | .hbm => 48
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x16x64, .f32⟩
  | .hbm, ⟨47, _⟩ => ⟨S64x16x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Rglru.lean ====
abbrev S8x2048x1024 : Shape := ⟨3, ![8, 2048, 1024]⟩
abbrev S1024 : Shape := ⟨1, ![1024]⟩
abbrev S1024x3072 : Shape := ⟨2, ![1024, 3072]⟩
abbrev S4x1536 : Shape := ⟨2, ![4, 1536]⟩
abbrev S1536 : Shape := ⟨1, ![1536]⟩
abbrev S12x128x128 : Shape := ⟨3, ![12, 128, 128]⟩
abbrev S1536x1024 : Shape := ⟨2, ![1536, 1024]⟩
abbrev S1x1024 : Shape := ⟨2, ![1, 1024]⟩
abbrev S1x1536 : Shape := ⟨2, ![1, 1536]⟩
abbrev S8x64x1024 : Shape := ⟨3, ![8, 64, 1024]⟩
abbrev S8x512x128 : Shape := ⟨3, ![8, 512, 128]⟩
abbrev S24x1536 : Shape := ⟨2, ![24, 1536]⟩
abbrev S8x1536 : Shape := ⟨2, ![8, 1536]⟩
abbrev S512x1536 : Shape := ⟨2, ![512, 1536]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S536x1536 : Shape := ⟨2, ![536, 1536]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 21
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S4x1536, .f32⟩
  | .hbm, ⟨4, _⟩ => ⟨S1536, .f32⟩
  | .hbm, ⟨5, _⟩ => ⟨S12x128x128, .f32⟩
  | .hbm, ⟨6, _⟩ => ⟨S1536, .f32⟩
  | .hbm, ⟨7, _⟩ => ⟨S12x128x128, .f32⟩
  | .hbm, ⟨8, _⟩ => ⟨S1536, .f32⟩
  | .hbm, ⟨9, _⟩ => ⟨S1536, .f32⟩
  | .hbm, ⟨10, _⟩ => ⟨S1536x1024, .f32⟩
  | .hbm, ⟨11, _⟩ => ⟨S1x1024, .f32⟩
  | .hbm, ⟨12, _⟩ => ⟨S1024x3072, .bf16⟩
  | .hbm, ⟨13, _⟩ => ⟨S1x1536, .f32⟩
  | .hbm, ⟨14, _⟩ => ⟨S12x128x128, .bf16⟩
  | .hbm, ⟨15, _⟩ => ⟨S1x1536, .f32⟩
  | .hbm, ⟨16, _⟩ => ⟨S12x128x128, .bf16⟩
  | .hbm, ⟨17, _⟩ => ⟨S1x1536, .f32⟩
  | .hbm, ⟨18, _⟩ => ⟨S1x1536, .f32⟩
  | .hbm, ⟨19, _⟩ => ⟨S1536x1024, .bf16⟩
  | .hbm, ⟨20, _⟩ => ⟨S8x2048x1024, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1024x3072, .bf16⟩
  | .local _ .vmem, ⟨4, _⟩ => ⟨S4x1536, .f32⟩
  | .local _ .vmem, ⟨5, _⟩ => ⟨S1x1536, .f32⟩
  | .local _ .vmem, ⟨6, _⟩ => ⟨S12x128x128, .bf16⟩
  | .local _ .vmem, ⟨7, _⟩ => ⟨S1x1536, .f32⟩
  | .local _ .vmem, ⟨8, _⟩ => ⟨S12x128x128, .bf16⟩
  | .local _ .vmem, ⟨9, _⟩ => ⟨S1x1536, .f32⟩
  | .local _ .vmem, ⟨10, _⟩ => ⟨S1x1536, .f32⟩
  | .local _ .vmem, ⟨11, _⟩ => ⟨S1536x1024, .bf16⟩
  | .local _ .vmem, ⟨12, _⟩ => ⟨S8x64x1024, .f32⟩
  | .local _ .vmem, ⟨13, _⟩ => ⟨S8x64x1024, .f32⟩
  | .local _ .vmem, ⟨14, _⟩ => ⟨S8x512x128, .f32⟩
  | .local _ .vmem, ⟨15, _⟩ => ⟨S8x512x128, .f32⟩
  | .local _ .vmem, ⟨16, _⟩ => ⟨S24x1536, .f32⟩
  | .local _ .vmem, ⟨17, _⟩ => ⟨S8x1536, .f32⟩
  | .local _ .vmem, ⟨18, _⟩ => ⟨S512x1536, .f32⟩
  | .local _ .vmem, ⟨19, _⟩ => ⟨S512x1536, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def k0_mult1 : BitVec 32 :=
  let c0_i32_636 : BitVec 32 := 0#32
  let c8_i32 : BitVec 32 := 8#32
  let v847 : BitVec 32 := Scalar.muli c0_i32_636 c8_i32
  v847
def k0_off1 (c0_i32_636 : BitVec 32) : Fin 2 → Nat :=
  let c8_i32 : BitVec 32 := 8#32
  let v847 : BitVec 32 := Scalar.muli c0_i32_636 c8_i32
  let v848 : BitVec 32 := v847
  let v849 : Index := Scalar.indexCast v848
  let c0_637 : Index := 0#32
  ![v849.toNat, 0]
def k0_mult2 : BitVec 32 :=
  let c1_i32 : BitVec 32 := 1#32
  let c8_i32_640 : BitVec 32 := 8#32
  let v859 : BitVec 32 := Scalar.muli c1_i32 c8_i32_640
  v859
def k0_mult3 : BitVec 32 :=
  let c2_i32 : BitVec 32 := 2#32
  let c8_i32_644 : BitVec 32 := 8#32
  let v871 : BitVec 32 := Scalar.muli c2_i32 c8_i32_644
  v871
def k0_mult4 : BitVec 32 :=
  let c3_i32 : BitVec 32 := 3#32
  let c8_i32_648 : BitVec 32 := 8#32
  let v883 : BitVec 32 := Scalar.muli c3_i32 c8_i32_648
  v883
def k0_mult5 : BitVec 32 :=
  let c4_i32 : BitVec 32 := 4#32
  let c8_i32_652 : BitVec 32 := 8#32
  let v895 : BitVec 32 := Scalar.muli c4_i32 c8_i32_652
  v895
def k0_mult6 : BitVec 32 :=
  let c5_i32 : BitVec 32 := 5#32
  let c8_i32_656 : BitVec 32 := 8#32
  let v907 : BitVec 32 := Scalar.muli c5_i32 c8_i32_656
  v907
def k0_mult7 : BitVec 32 :=
  let c6_i32 : BitVec 32 := 6#32
  let c8_i32_660 : BitVec 32 := 8#32
  let v919 : BitVec 32 := Scalar.muli c6_i32 c8_i32_660
  v919
def k0_mult8 : BitVec 32 :=
  let c7_i32 : BitVec 32 := 7#32
  let c8_i32_664 : BitVec 32 := 8#32
  let v931 : BitVec 32 := Scalar.muli c7_i32 c8_i32_664
  v931
def k0_mult9 : BitVec 32 :=
  let c8_i32_668 : BitVec 32 := 8#32
  let c8_i32_669 : BitVec 32 := 8#32
  let v943 : BitVec 32 := Scalar.muli c8_i32_668 c8_i32_669
  v943
def k0_mult10 : BitVec 32 :=
  let c9_i32 : BitVec 32 := 9#32
  let c8_i32_673 : BitVec 32 := 8#32
  let v955 : BitVec 32 := Scalar.muli c9_i32 c8_i32_673
  v955
def k0_mult11 : BitVec 32 :=
  let c10_i32 : BitVec 32 := 10#32
  let c8_i32_677 : BitVec 32 := 8#32
  let v967 : BitVec 32 := Scalar.muli c10_i32 c8_i32_677
  v967
def k0_mult12 : BitVec 32 :=
  let c11_i32 : BitVec 32 := 11#32
  let c8_i32_681 : BitVec 32 := 8#32
  let v979 : BitVec 32 := Scalar.muli c11_i32 c8_i32_681
  v979
def k0_mult13 : BitVec 32 :=
  let c12_i32 : BitVec 32 := 12#32
  let c8_i32_685 : BitVec 32 := 8#32
  let v991 : BitVec 32 := Scalar.muli c12_i32 c8_i32_685
  v991
def k0_mult14 : BitVec 32 :=
  let c13_i32 : BitVec 32 := 13#32
  let c8_i32_689 : BitVec 32 := 8#32
  let v1003 : BitVec 32 := Scalar.muli c13_i32 c8_i32_689
  v1003
def k0_mult15 : BitVec 32 :=
  let c14_i32 : BitVec 32 := 14#32
  let c8_i32_693 : BitVec 32 := 8#32
  let v1015 : BitVec 32 := Scalar.muli c14_i32 c8_i32_693
  v1015
def k0_mult16 : BitVec 32 :=
  let c15_i32 : BitVec 32 := 15#32
  let c8_i32_697 : BitVec 32 := 8#32
  let v1027 : BitVec 32 := Scalar.muli c15_i32 c8_i32_697
  v1027
def k0_mult17 : BitVec 32 :=
  let c16_i32 : BitVec 32 := 16#32
  let c8_i32_701 : BitVec 32 := 8#32
  let v1039 : BitVec 32 := Scalar.muli c16_i32 c8_i32_701
  v1039
def k0_mult18 : BitVec 32 :=
  let c17_i32 : BitVec 32 := 17#32
  let c8_i32_705 : BitVec 32 := 8#32
  let v1051 : BitVec 32 := Scalar.muli c17_i32 c8_i32_705
  v1051
def k0_mult19 : BitVec 32 :=
  let c18_i32 : BitVec 32 := 18#32
  let c8_i32_709 : BitVec 32 := 8#32
  let v1063 : BitVec 32 := Scalar.muli c18_i32 c8_i32_709
  v1063
def k0_mult20 : BitVec 32 :=
  let c19_i32 : BitVec 32 := 19#32
  let c8_i32_713 : BitVec 32 := 8#32
  let v1075 : BitVec 32 := Scalar.muli c19_i32 c8_i32_713
  v1075
def k0_mult21 : BitVec 32 :=
  let c20_i32 : BitVec 32 := 20#32
  let c8_i32_717 : BitVec 32 := 8#32
  let v1087 : BitVec 32 := Scalar.muli c20_i32 c8_i32_717
  v1087
def k0_mult22 : BitVec 32 :=
  let c21_i32 : BitVec 32 := 21#32
  let c8_i32_721 : BitVec 32 := 8#32
  let v1099 : BitVec 32 := Scalar.muli c21_i32 c8_i32_721
  v1099
def k0_mult23 : BitVec 32 :=
  let c22_i32 : BitVec 32 := 22#32
  let c8_i32_725 : BitVec 32 := 8#32
  let v1111 : BitVec 32 := Scalar.muli c22_i32 c8_i32_725
  v1111
def k0_mult24 : BitVec 32 :=
  let c23_i32 : BitVec 32 := 23#32
  let c8_i32_729 : BitVec 32 := 8#32
  let v1123 : BitVec 32 := Scalar.muli c23_i32 c8_i32_729
  v1123
def k0_mult25 : BitVec 32 :=
  let c24_i32 : BitVec 32 := 24#32
  let c8_i32_733 : BitVec 32 := 8#32
  let v1135 : BitVec 32 := Scalar.muli c24_i32 c8_i32_733
  v1135
def k0_mult26 : BitVec 32 :=
  let c25_i32 : BitVec 32 := 25#32
  let c8_i32_737 : BitVec 32 := 8#32
  let v1147 : BitVec 32 := Scalar.muli c25_i32 c8_i32_737
  v1147
def k0_mult27 : BitVec 32 :=
  let c26_i32 : BitVec 32 := 26#32
  let c8_i32_741 : BitVec 32 := 8#32
  let v1159 : BitVec 32 := Scalar.muli c26_i32 c8_i32_741
  v1159
def k0_mult28 : BitVec 32 :=
  let c27_i32 : BitVec 32 := 27#32
  let c8_i32_745 : BitVec 32 := 8#32
  let v1171 : BitVec 32 := Scalar.muli c27_i32 c8_i32_745
  v1171
def k0_mult29 : BitVec 32 :=
  let c28_i32 : BitVec 32 := 28#32
  let c8_i32_749 : BitVec 32 := 8#32
  let v1183 : BitVec 32 := Scalar.muli c28_i32 c8_i32_749
  v1183
def k0_mult30 : BitVec 32 :=
  let c29_i32 : BitVec 32 := 29#32
  let c8_i32_753 : BitVec 32 := 8#32
  let v1195 : BitVec 32 := Scalar.muli c29_i32 c8_i32_753
  v1195
def k0_mult31 : BitVec 32 :=
  let c30_i32 : BitVec 32 := 30#32
  let c8_i32_757 : BitVec 32 := 8#32
  let v1207 : BitVec 32 := Scalar.muli c30_i32 c8_i32_757
  v1207
def k0_mult32 : BitVec 32 :=
  let c31_i32 : BitVec 32 := 31#32
  let c8_i32_761 : BitVec 32 := 8#32
  let v1219 : BitVec 32 := Scalar.muli c31_i32 c8_i32_761
  v1219
def k0_mult33 : BitVec 32 :=
  let c32_i32 : BitVec 32 := 32#32
  let c8_i32_765 : BitVec 32 := 8#32
  let v1231 : BitVec 32 := Scalar.muli c32_i32 c8_i32_765
  v1231
def k0_mult34 : BitVec 32 :=
  let c33_i32 : BitVec 32 := 33#32
  let c8_i32_769 : BitVec 32 := 8#32
  let v1243 : BitVec 32 := Scalar.muli c33_i32 c8_i32_769
  v1243
def k0_mult35 : BitVec 32 :=
  let c34_i32 : BitVec 32 := 34#32
  let c8_i32_773 : BitVec 32 := 8#32
  let v1255 : BitVec 32 := Scalar.muli c34_i32 c8_i32_773
  v1255
def k0_mult36 : BitVec 32 :=
  let c35_i32 : BitVec 32 := 35#32
  let c8_i32_777 : BitVec 32 := 8#32
  let v1267 : BitVec 32 := Scalar.muli c35_i32 c8_i32_777
  v1267
def k0_mult37 : BitVec 32 :=
  let c36_i32 : BitVec 32 := 36#32
  let c8_i32_781 : BitVec 32 := 8#32
  let v1279 : BitVec 32 := Scalar.muli c36_i32 c8_i32_781
  v1279
def k0_mult38 : BitVec 32 :=
  let c37_i32 : BitVec 32 := 37#32
  let c8_i32_785 : BitVec 32 := 8#32
  let v1291 : BitVec 32 := Scalar.muli c37_i32 c8_i32_785
  v1291
def k0_mult39 : BitVec 32 :=
  let c38_i32 : BitVec 32 := 38#32
  let c8_i32_789 : BitVec 32 := 8#32
  let v1303 : BitVec 32 := Scalar.muli c38_i32 c8_i32_789
  v1303
def k0_mult40 : BitVec 32 :=
  let c39_i32 : BitVec 32 := 39#32
  let c8_i32_793 : BitVec 32 := 8#32
  let v1315 : BitVec 32 := Scalar.muli c39_i32 c8_i32_793
  v1315
def k0_mult41 : BitVec 32 :=
  let c40_i32 : BitVec 32 := 40#32
  let c8_i32_797 : BitVec 32 := 8#32
  let v1327 : BitVec 32 := Scalar.muli c40_i32 c8_i32_797
  v1327
def k0_mult42 : BitVec 32 :=
  let c41_i32 : BitVec 32 := 41#32
  let c8_i32_801 : BitVec 32 := 8#32
  let v1339 : BitVec 32 := Scalar.muli c41_i32 c8_i32_801
  v1339
def k0_mult43 : BitVec 32 :=
  let c42_i32 : BitVec 32 := 42#32
  let c8_i32_805 : BitVec 32 := 8#32
  let v1351 : BitVec 32 := Scalar.muli c42_i32 c8_i32_805
  v1351
def k0_mult44 : BitVec 32 :=
  let c43_i32 : BitVec 32 := 43#32
  let c8_i32_809 : BitVec 32 := 8#32
  let v1363 : BitVec 32 := Scalar.muli c43_i32 c8_i32_809
  v1363
def k0_mult45 : BitVec 32 :=
  let c44_i32 : BitVec 32 := 44#32
  let c8_i32_813 : BitVec 32 := 8#32
  let v1375 : BitVec 32 := Scalar.muli c44_i32 c8_i32_813
  v1375
def k0_mult46 : BitVec 32 :=
  let c45_i32 : BitVec 32 := 45#32
  let c8_i32_817 : BitVec 32 := 8#32
  let v1387 : BitVec 32 := Scalar.muli c45_i32 c8_i32_817
  v1387
def k0_mult47 : BitVec 32 :=
  let c46_i32 : BitVec 32 := 46#32
  let c8_i32_821 : BitVec 32 := 8#32
  let v1399 : BitVec 32 := Scalar.muli c46_i32 c8_i32_821
  v1399
def k0_mult48 : BitVec 32 :=
  let c47_i32 : BitVec 32 := 47#32
  let c8_i32_825 : BitVec 32 := 8#32
  let v1411 : BitVec 32 := Scalar.muli c47_i32 c8_i32_825
  v1411
def k0_mult49 : BitVec 32 :=
  let c48_i32 : BitVec 32 := 48#32
  let c8_i32_829 : BitVec 32 := 8#32
  let v1423 : BitVec 32 := Scalar.muli c48_i32 c8_i32_829
  v1423
def k0_mult50 : BitVec 32 :=
  let c49_i32 : BitVec 32 := 49#32
  let c8_i32_833 : BitVec 32 := 8#32
  let v1435 : BitVec 32 := Scalar.muli c49_i32 c8_i32_833
  v1435
def k0_mult51 : BitVec 32 :=
  let c50_i32 : BitVec 32 := 50#32
  let c8_i32_837 : BitVec 32 := 8#32
  let v1447 : BitVec 32 := Scalar.muli c50_i32 c8_i32_837
  v1447
def k0_mult52 : BitVec 32 :=
  let c51_i32 : BitVec 32 := 51#32
  let c8_i32_841 : BitVec 32 := 8#32
  let v1459 : BitVec 32 := Scalar.muli c51_i32 c8_i32_841
  v1459
def k0_mult53 : BitVec 32 :=
  let c52_i32 : BitVec 32 := 52#32
  let c8_i32_845 : BitVec 32 := 8#32
  let v1471 : BitVec 32 := Scalar.muli c52_i32 c8_i32_845
  v1471
def k0_mult54 : BitVec 32 :=
  let c53_i32 : BitVec 32 := 53#32
  let c8_i32_849 : BitVec 32 := 8#32
  let v1483 : BitVec 32 := Scalar.muli c53_i32 c8_i32_849
  v1483
def k0_mult55 : BitVec 32 :=
  let c54_i32 : BitVec 32 := 54#32
  let c8_i32_853 : BitVec 32 := 8#32
  let v1495 : BitVec 32 := Scalar.muli c54_i32 c8_i32_853
  v1495
def k0_mult56 : BitVec 32 :=
  let c55_i32 : BitVec 32 := 55#32
  let c8_i32_857 : BitVec 32 := 8#32
  let v1507 : BitVec 32 := Scalar.muli c55_i32 c8_i32_857
  v1507
def k0_mult57 : BitVec 32 :=
  let c56_i32 : BitVec 32 := 56#32
  let c8_i32_861 : BitVec 32 := 8#32
  let v1519 : BitVec 32 := Scalar.muli c56_i32 c8_i32_861
  v1519
def k0_mult58 : BitVec 32 :=
  let c57_i32 : BitVec 32 := 57#32
  let c8_i32_865 : BitVec 32 := 8#32
  let v1531 : BitVec 32 := Scalar.muli c57_i32 c8_i32_865
  v1531
def k0_mult59 : BitVec 32 :=
  let c58_i32 : BitVec 32 := 58#32
  let c8_i32_869 : BitVec 32 := 8#32
  let v1543 : BitVec 32 := Scalar.muli c58_i32 c8_i32_869
  v1543
def k0_mult60 : BitVec 32 :=
  let c59_i32 : BitVec 32 := 59#32
  let c8_i32_873 : BitVec 32 := 8#32
  let v1555 : BitVec 32 := Scalar.muli c59_i32 c8_i32_873
  v1555
def k0_mult61 : BitVec 32 :=
  let c60_i32 : BitVec 32 := 60#32
  let c8_i32_877 : BitVec 32 := 8#32
  let v1567 : BitVec 32 := Scalar.muli c60_i32 c8_i32_877
  v1567
def k0_mult62 : BitVec 32 :=
  let c61_i32 : BitVec 32 := 61#32
  let c8_i32_881 : BitVec 32 := 8#32
  let v1579 : BitVec 32 := Scalar.muli c61_i32 c8_i32_881
  v1579
def k0_mult63 : BitVec 32 :=
  let c62_i32 : BitVec 32 := 62#32
  let c8_i32_885 : BitVec 32 := 8#32
  let v1591 : BitVec 32 := Scalar.muli c62_i32 c8_i32_885
  v1591
def k0_mult64 : BitVec 32 :=
  let c63_i32 : BitVec 32 := 63#32
  let c8_i32_889 : BitVec 32 := 8#32
  let v1603 : BitVec 32 := Scalar.muli c63_i32 c8_i32_889
  v1603
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Tables.lean ====
/-
  The three prefetched tables of the experts' call — each tile's expert, the number of tiles in use, each tile's count of
  valid rows — as words, the index maps that read them in closed form, and the range condition on the experts under which
  every block the index maps name lies inside its array.
-/
module

public import proofs.«01_k».proof.Proof.Gen.KernelIdeal.Skeleton
public import proofs.«01_k».proof.Proof.Gen.KernelIdeal.Launch
public import Idealize.ShloMosaic.Lib.ValueIdxCore

@[expose] public section

set_option maxRecDepth 16384

noncomputable section

namespace Cert.KernelIdeal.Experts

open Cert.KernelIdeal Cert.KernelIdeal.Gen
open Idealize.ShloMosaic Idealize.ShloMosaic.TcCoe Idealize.ShloMosaic.ValueIdx

variable {F : FTy → Type} [FloatOps F]

/-- The word of tile `i` in the table of experts. -/
def expertWord (pf : pre0.Contents (Elt F)) (i : Fin 40) : BitVec 32 := pf 0 (ix1 i)
/-- The number of tiles in use. -/
def usedWord (pf : pre0.Contents (Elt F)) : BitVec 32 := pf 1 (ix1 (n := 1) 0)
/-- The count of valid rows of tile `i`. -/
def validWord (pf : pre0.Contents (Elt F)) (i : Fin 40) : BitVec 32 := pf 2 (ix1 i)

/-- Tile `i` is in use. -/
def Used (pf : pre0.Contents (Elt F)) (i : Fin 40) : Prop := ((i.val : ℕ) : ℤ) < (usedWord pf).toInt
/-- Tile `i` holds more than half a tile of valid rows, so that all its rows are computed. -/
def Big (pf : pre0.Contents (Elt F)) (i : Fin 40) : Prop := 512 < (validWord pf i).toInt

instance (pf : pre0.Contents (Elt F)) (i : Fin 40) : Decidable (Used pf i) := by unfold Used; infer_instance
instance (pf : pre0.Contents (Elt F)) (i : Fin 40) : Decidable (Big pf i) := by unfold Big; infer_instance

/-- Every tile's expert is one of the eight. -/
def InRange (pf : pre0.Contents (Elt F)) : Prop := ∀ i : Fin 40, (expertWord pf i).toNat < 8

theorem tile_toInt (i : Fin 40) : (BitVec.ofNat 32 i.val).toInt = (i.val : ℤ) := by revert i; decide

theorem ofBool_eq_one (b : Bool) : BitVec.ofBool b = 1#1 ↔ b = true := by cases b <;> decide

theorem used_iff (pf : pre0.Contents (Elt F)) (i : Fin 40) :
    Scalar.cmpi .slt (BitVec.ofNat 32 i.val) (usedWord pf) = 1#1 ↔ Used pf i := by
  unfold Used
  rw [← tile_toInt i, Scalar.cmpi, IntOp.cmpi, ofBool_eq_one, BitVec.slt, decide_eq_true_iff]

theorem flag_iff (x : BitVec 1) : Scalar.cmpi .ne (Scalar.extui x) 0#32 = 1#1 ↔ x = 1#1 := by revert x; decide
theorem andi_iff (x y : BitVec 1) : Scalar.andi x y = 1#1 ↔ x = 1#1 ∧ y = 1#1 := by revert x y; decide

/-- The tile of a grid point. -/
def tile (i : grid0.Coords) : Fin 40 := i 0
/-- The part of the hidden columns a grid point computes. -/
def part (i : grid0.Coords) : Fin 7 := i 1

/-! ## The decisions of the body -/

theorem cond1_iff (i : grid0.Coords) : k0_cond1 i = 1#1 ↔ (part i).val = 0 := by
  have h : ∀ f : Fin 7, Scalar.cmpi .ne (Scalar.extui (Scalar.cmpi .eq (BitVec.ofNat 32 f.val) 0#32)) 0#32 = 1#1 ↔ f.val = 0 := by decide
  exact h (part i)

theorem condX_iff (pf : pre0.Contents (Elt F)) (i : grid0.Coords) :
    Scalar.cmpi .ne (Scalar.extui (Scalar.andi (Scalar.cmpi .slt (BitVec.ofNat 32 (i 0).val) (usedWord pf))
      (Scalar.cmpi .eq (BitVec.ofNat 32 (i 1).val) 0#32))) 0#32 = 1#1 ↔ Used pf (tile i) ∧ (part i).val = 0 := by
  have h : ∀ f : Fin 7, Scalar.cmpi .eq (BitVec.ofNat 32 f.val) 0#32 = 1#1 ↔ f.val = 0 := by decide
  refine (flag_iff _).trans ((andi_iff _ _).trans ?_)
  exact and_congr (used_iff pf (tile i)) (h (part i))

theorem cond3_iff (pf : pre0.Contents (Elt F)) (i : grid0.Coords) :
    k0_cond3 i (usedWord pf) (validWord pf (tile i)) = 1#1 ↔ Used pf (tile i) ∧ Big pf (tile i) := by
  unfold k0_cond3
  rw [flag_iff, andi_iff]
  refine and_congr (used_iff pf (tile i)) ?_
  unfold Big
  rw [Scalar.cmpi, IntOp.cmpi, ofBool_eq_one, BitVec.slt, decide_eq_true_iff]
  rfl

theorem cond4_iff (pf : pre0.Contents (Elt F)) (i : grid0.Coords) :
    k0_cond4 i (usedWord pf) (validWord pf (tile i)) = 1#1 ↔ Used pf (tile i) ∧ ¬ Big pf (tile i) := by
  unfold k0_cond4
  rw [flag_iff, andi_iff]
  refine and_congr (used_iff pf (tile i)) ?_
  unfold Big
  rw [Scalar.cmpi, IntOp.cmpi, ofBool_eq_one, BitVec.sle, decide_eq_true_iff, not_lt]
  rfl

/-! ## The index maps -/

theorem coord0_toNat (i : Fin 40) : (BitVec.ofNat 32 i.val).toNat = i.val := by revert i; decide
theorem coord1_toNat (i : Fin 7) : (BitVec.ofNat 32 i.val).toNat = i.val := by revert i; decide
theorem coord1_add7 (i : Fin 7) : (Scalar.addi 7#32 (BitVec.ofNat 32 i.val)).toNat = 7 + i.val := by revert i; decide
theorem coord1_add0 (i : Fin 7) : (Scalar.addi 0#32 (BitVec.ofNat 32 i.val)).toNat = i.val := by revert i; decide

theorem off_eq (i : grid0.Coords) : (Scalar.indexCast (BitVec.ofNat 32 (i 0).val)).toNat = (tile i).val := coord0_toNat (tile i)

theorem at_used (pf : pre0.Contents (Elt F)) (h h1) : pf.at 1 (Rect.unit (s := S1) ![0] ![1] h) h1 = usedWord pf :=
  congrArg (pf 1) (funext fun a => by fin_cases a; exact Subsingleton.elim (α := Fin 1) _ _)

theorem at_expert (pf : pre0.Contents (Elt F)) (i : grid0.Coords) (h h1) :
    pf.at 0 (Rect.unit (s := S40) ![(Scalar.indexCast (BitVec.ofNat 32 (i 0).val)).toNat] ![1] h) h1 = expertWord pf (tile i) := by
  refine congrArg (pf 0) (funext fun a => Fin.ext ?_)
  fin_cases a
  exact off_eq i

/-- The block of tokens the tile reads: its own where it is in use, the first elsewhere. -/
def rowBlock (pf : pre0.Contents (Elt F)) (i : grid0.Coords) : Fin 40 := if Used pf (tile i) then tile i else 0
/-- The block of hidden columns the point reads: its own where the tile is in use, the last elsewhere. -/
def colBlock (pf : pre0.Contents (Elt F)) (i : grid0.Coords) : Fin 7 := if Used pf (tile i) then part i else 6

theorem select_used {α : Type} (pf : pre0.Contents (Elt F)) (i : grid0.Coords) (a b : α) :
    Scalar.select (Scalar.cmpi .slt (BitVec.ofNat 32 (tile i).val) (usedWord pf)) a b = if Used pf (tile i) then a else b :=
  if_congr (used_iff pf (tile i)) rfl rfl

theorem map0_eq (pf : pre0.Contents (Elt F)) (i : grid0.Coords) (h h1) : cc0_transform_0 h h1 pf i = ![(rowBlock pf i).val, 0] := by
  refine (congrArg (fun u : BitVec 32 => (![(Scalar.select (Scalar.cmpi .slt (BitVec.ofNat 32 (tile i).val) u)
    (BitVec.ofNat 32 (tile i).val) 0#32).toNat, 0] : Fin 2 → ℕ)) (at_used pf h h1)).trans ?_
  unfold rowBlock
  rw [select_used]
  split
  · rw [coord0_toNat]
  · rfl

theorem map2_eq (pf : pre0.Contents (Elt F)) (i : grid0.Coords) (h h1 h2) :
    cc0_transform_2 h h1 h2 pf i = ![0, (expertWord pf (tile i)).toNat, 0, (colBlock pf i).val] := by
  refine (congrArg₂ (fun e u : BitVec 32 => (![0, e.toNat, 0, (Scalar.addi 0#32 (Scalar.select (Scalar.cmpi .slt (BitVec.ofNat 32 (tile i).val) u)
    (BitVec.ofNat 32 (part i).val) 6#32)).toNat] : Fin 4 → ℕ)) (at_expert pf i (h i) h1) (at_used pf h2 h1)).trans ?_
  unfold colBlock
  rw [select_used]
  split
  · rw [coord1_add0]
  · rfl

theorem map3_eq (pf : pre0.Contents (Elt F)) (i : grid0.Coords) (h h1 h2) :
    cc0_transform_3 h h1 h2 pf i = ![0, (expertWord pf (tile i)).toNat, 0, 7 + (colBlock pf i).val] := by
  refine (congrArg₂ (fun e u : BitVec 32 => (![0, e.toNat, 0, (Scalar.addi 7#32 (Scalar.select (Scalar.cmpi .slt (BitVec.ofNat 32 (tile i).val) u)
    (BitVec.ofNat 32 (part i).val) 6#32)).toNat] : Fin 4 → ℕ)) (at_expert pf i (h i) h1) (at_used pf h2 h1)).trans ?_
  unfold colBlock
  rw [select_used]
  split
  · rw [coord1_add7]
  · rfl

theorem map4_eq (pf : pre0.Contents (Elt F)) (i : grid0.Coords) (h h1 h2) :
    cc0_transform_4 h h1 h2 pf i = ![0, (expertWord pf (tile i)).toNat, (colBlock pf i).val, 0] := by
  refine (congrArg₂ (fun e u : BitVec 32 => (![0, e.toNat, (Scalar.select (Scalar.cmpi .slt (BitVec.ofNat 32 (tile i).val) u)
    (BitVec.ofNat 32 (part i).val) 6#32).toNat, 0] : Fin 4 → ℕ)) (at_expert pf i (h i) h1) (at_used pf h2 h1)).trans ?_
  unfold colBlock
  rw [select_used]
  split
  · rw [coord1_toNat]
  · rfl

theorem map5_eq (i : grid0.Coords) : cc0_transform_5 i = ![(tile i).val, 0] :=
  congrArg (fun n : ℕ => (![n, 0] : Fin 2 → ℕ)) (coord0_toNat (tile i))

/-! ## The side condition of the tables -/

/-- Experts in range put every block inside its array. -/
theorem ok_of_inRange (pf : pre0.Contents (Elt F)) (h : InRange pf) : ok0 pf := by
  refine ⟨fun i => ⟨?_, .inl rfl⟩, fun i => ⟨?_, .inl rfl⟩, fun i => ⟨?_, .inl rfl⟩, fun i => ⟨?_, .inl rfl⟩⟩
  · rw [map0_eq]
    have := (rowBlock pf i).isLt
    intro a; fin_cases a
    · show ((rowBlock pf i).val + 1) * 1024 ≤ 40960; omega
    · exact Nat.le_of_ble_eq_true rfl
  · rw [map2_eq]
    have := (colBlock pf i).isLt; have := h (tile i)
    intro a; fin_cases a
    · exact Nat.le_of_ble_eq_true rfl
    · show ((expertWord pf (tile i)).toNat + 1) * 1 ≤ 8; omega
    · exact Nat.le_of_ble_eq_true rfl
    · show ((colBlock pf i).val + 1) * 512 ≤ 7168; omega
  · rw [map3_eq]
    have := (colBlock pf i).isLt; have := h (tile i)
    intro a; fin_cases a
    · exact Nat.le_of_ble_eq_true rfl
    · show ((expertWord pf (tile i)).toNat + 1) * 1 ≤ 8; omega
    · exact Nat.le_of_ble_eq_true rfl
    · show (7 + (colBlock pf i).val + 1) * 512 ≤ 7168; omega
  · rw [map4_eq]
    have := (colBlock pf i).isLt; have := h (tile i)
    intro a; fin_cases a
    · exact Nat.le_of_ble_eq_true rfl
    · show ((expertWord pf (tile i)).toNat + 1) * 1 ≤ 8; omega
    · show ((colBlock pf i).val + 1) * 512 ≤ 3584; omega
    · exact Nat.le_of_ble_eq_true rfl

end Cert.KernelIdeal.Experts

end
-- ==== Proof.Body.lean ====
/-
  One grid point of the experts' call. From the staged blocks, the tables and the output block the point before left, the
  body leaves the output block `outStep`: zeros at the tile's first part, then — in a tile in use — the part's share of the
  expert's product added, on all rows or on the first half of them. The scratch holds the tile's normalised tokens from the
  first part on.
-/
module

public import proofs.«01_k».proof.Proof.Tables
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Experts

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three tables and the scratch, whole. -/
abbrev tbM0 : Memref sig .tc .smem S40 .i32 := Memref.whole main_arg0
abbrev tbM1 : Memref sig .tc .smem S1 .i32 := Memref.whole main_arg1
abbrev tbM2 : Memref sig .tc .smem S40 .i32 := Memref.whole main_arg2
abbrev scM : Memref sig .tc .vmem S1024x1024 .bf16 := Memref.whole cc0_scratch0

/-- The first half of a tile's rows. -/
abbrev halfRows {α : Type} (x : S1024x1024.Idx → α) : S512x1024.Idx → α :=
  VecWindow.window x ![0, 0] S512x1024.size inb_S1024x1024_S512x1024_0_0

/-- The output block after a grid point, from the staged blocks and the block before. -/
def outStep (pf : pre0.Contents (Elt F)) (i : grid0.Coords) (x : Vec F S1024x1024 .f32) (g : Vec F S1x1024 .f32)
    (wg wu : Vec F S1x1x1024x512 .f32) (wd : Vec F S1x1x512x1024 .f32) (y : Vec F S1024x1024 .f32) : Vec F S1024x1024 .f32 :=
  let y0 : Vec F S1024x1024 .f32 := if (part i).val = 0 then k0_pay1 (F := F) else y
  if Used pf (tile i) then
    if Big pf (tile i) then k0_pay3 (k0_pay2 x g) wg wu y0 wd
    else VecWindow.put y0 ![0, 0] S512x1024.size (k0_pay4 (halfRows (k0_pay2 x g)) wg wu (halfRows y0) wd)
  else y0

theorem read_used (pf : pre0.Contents (Elt F)) (j : S1.Idx) (h) :
    View.readAt (Elt F) tbM1.view (Rect.unit (s := S1) ![0] S1.size h).toLoadRect (pf 1) j = usedWord pf :=
  congrArg (pf 1) (funext fun a => by fin_cases a; exact Subsingleton.elim (α := Fin 1) _ _)

theorem read_valid (pf : pre0.Contents (Elt F)) (i : grid0.Coords) (h) :
    View.readAt (Elt F) tbM2.view (Rect.unit (s := S40) (k0_off2 i) S1.size h).toLoadRect (pf 2) (Shape.Idx.first (numel1_S1.symm ▸ Nat.one_pos)) = validWord pf (tile i) := by
  refine congrArg (pf 2) (funext fun a => Fin.ext ?_)
  fin_cases a
  exact off_eq i

theorem readAt_half {e : EltTy} (v : View sig .tc .vmem S1024x1024 e) (f : v.ty.Contents (Elt F)) :
    v.readAt (Elt F) (Rect.unit (s := S1024x1024) ![0, 0] S512x1024.size inb_S1024x1024_S512x1024_0_0).toLoadRect f = halfRows (v.read (Elt F) f) :=
  View.readAt_unit v f _ rfl _

theorem readCov_half {e : EltTy} (v : View sig .tc .vmem S1024x1024 e) (h) (w : Vec F S1024x1024 e) (L : List (View.Piece (Elt F) S1024x1024 e)) :
    v.readCov (⟨Rect.unit (s := S1024x1024) ![0, 0] S1024x1024.size h, w⟩ :: L) (Rect.unit (s := S1024x1024) ![0, 0] S512x1024.size inb_S1024x1024_S512x1024_0_0).toLoadRect
      = halfRows w :=
  (readAt_half v _).trans (congrArg halfRows (View.read_writes_full v _ _ _ _))

theorem read_writes_half {e : EltTy} (v : View sig .tc .vmem S1024x1024 e) (f : v.ty.Contents (Elt F)) (w : Vec F S512x1024 e) (L : List (View.Piece (Elt F) S1024x1024 e)) :
    v.read (Elt F) (v.writes (Elt F) f (⟨Rect.unit (s := S1024x1024) ![0, 0] S512x1024.size inb_S1024x1024_S512x1024_0_0, w⟩ :: L))
      = VecWindow.put (v.read (Elt F) (v.writes (Elt F) f L)) ![0, 0] S512x1024.size w :=
  View.read_writes_cons_put v f _ w L rfl

set_option backward.proofsInPublic true in
set_option maxHeartbeats 8000000 in
theorem body_run (pf : pre0.Contents (Elt F)) (c : Dev nD) (i : grid0.Coords)
    (arg5 : Memref sig .tc .vmem S1024x1024 .f32) (harg5 : arg5.IsWhole) (arg6 : Memref sig .tc .vmem S1x1024 .f32) (harg6 : arg6.IsWhole)
    (arg7 : Memref sig .tc .vmem S1x1x1024x512 .f32) (harg7 : arg7.IsWhole) (arg8 : Memref sig .tc .vmem S1x1x1024x512 .f32) (harg8 : arg8.IsWhole)
    (arg9 : Memref sig .tc .vmem S1x1x512x1024 .f32) (harg9 : arg9.IsWhole) (arg10 : Memref sig .tc .vmem S1024x1024 .f32) (harg10 : arg10.IsWhole)
    (x : Vec F S1024x1024 .f32) (g : Vec F S1x1024 .f32) (wg wu : Vec F S1x1x1024x512 .f32) (wd : Vec F S1x1x512x1024 .f32)
    (y : Vec F S1024x1024 .f32) (a : Vec F S1024x1024 .bf16)
    (ha : Used pf (tile i) → (part i).val ≠ 0 → a = k0_pay2 x g) (K : PUnit → sProp 𝕄) :
    iprop((arg5.view.loc (c : Thread nD τ) ↦[arg5.view.set]{fullShare} arg5.view.rep x)
      ∗ (arg6.view.loc (c : Thread nD τ) ↦[arg6.view.set]{fullShare} arg6.view.rep g)
      ∗ (arg7.view.loc (c : Thread nD τ) ↦[arg7.view.set]{fullShare} arg7.view.rep wg)
      ∗ (arg8.view.loc (c : Thread nD τ) ↦[arg8.view.set]{fullShare} arg8.view.rep wu)
      ∗ (arg9.view.loc (c : Thread nD τ) ↦[arg9.view.set]{fullShare} arg9.view.rep wd)
      ∗ (tbM0.view.loc (c : Thread nD τ) ↦{fullShare.right} pf 0)
      ∗ (tbM1.view.loc (c : Thread nD τ) ↦{fullShare.right} pf 1)
      ∗ (tbM2.view.loc (c : Thread nD τ) ↦{fullShare.right} pf 2)
      ∗ (arg10.view.loc (c : Thread nD τ) ↦[arg10.view.set]{fullShare} arg10.view.rep y)
      ∗ (scM.view.loc (c : Thread nD τ) ↦[scM.view.set]{fullShare} scM.view.rep a)
      ∗ (iprop((arg5.view.loc (c : Thread nD τ) ↦[arg5.view.set]{fullShare} arg5.view.rep x)
          ∗ (arg6.view.loc (c : Thread nD τ) ↦[arg6.view.set]{fullShare} arg6.view.rep g)
          ∗ (arg7.view.loc (c : Thread nD τ) ↦[arg7.view.set]{fullShare} arg7.view.rep wg)
          ∗ (arg8.view.loc (c : Thread nD τ) ↦[arg8.view.set]{fullShare} arg8.view.rep wu)
          ∗ (arg9.view.loc (c : Thread nD τ) ↦[arg9.view.set]{fullShare} arg9.view.rep wd)
          ∗ (tbM0.view.loc (c : Thread nD τ) ↦{fullShare.right} pf 0)
          ∗ (tbM1.view.loc (c : Thread nD τ) ↦{fullShare.right} pf 1)
          ∗ (tbM2.view.loc (c : Thread nD τ) ↦{fullShare.right} pf 2)
          ∗ (arg10.view.loc (c : Thread nD τ) ↦[arg10.view.set]{fullShare} arg10.view.rep (outStep pf i x g wg wu wd y))
          ∗ (∃ a', ⌜Used pf (tile i) → a' = k0_pay2 x g⌝ ∗ (scM.view.loc (c : Thread nD τ) ↦[scM.view.set]{fullShare} scM.view.rep a'))) -∗ K ⟨⟩))
      ⊢ wp frame (wpE (defs₀ (F := F)) Variants.none c none) Set.univ
          (cc0_moe_expert i tbM0 (Memref.isWhole_whole _) tbM1 (Memref.isWhole_whole _) tbM2 (Memref.isWhole_whole _) arg5 harg5 arg6 harg6 arg7 harg7 arg8 harg8 arg9 harg9 arg10 harg10 scM (Memref.isWhole_whole _)) K := by
  rw [cc0_moe_expert_eq_skeleton]; unfold cc0_moe_expert_skel
  have hS0 : scM.IsWhole := Memref.isWhole_whole _
  have hT0 : tbM0.IsWhole := Memref.isWhole_whole _
  have hT1 : tbM1.IsWhole := Memref.isWhole_whole _
  have hT2 : tbM2.IsWhole := Memref.isWhole_whole _
  have e1 := cond1_iff i
  have eX := condX_iff pf i
  have e3 := cond3_iff pf i
  have e4 := cond4_iff pf i
  rw [← read_valid pf i (k0_off2_inb i), ← read_used pf (Shape.Idx.first (numel1_S1.symm ▸ Nat.one_pos)) inb_S1_S1_0] at e3
  rw [← read_valid pf i (k0_off2_inb i), ← read_used pf (Shape.Idx.first (numel1_S1.symm ▸ Nat.one_pos)) inb_S1_S1_0] at e4
  rw [← read_used pf (Shape.Idx.first (numel1_S1.symm ▸ Nat.one_pos)) inb_S1_S1_0] at eX
  by_cases hu : Used pf (tile i) <;> by_cases hf : (part i).val = 0 <;> by_cases hb : Big pf (tile i)
  all_goals
    simp only [hu, hf, hb, not_true_eq_false, not_false_eq_true, and_true, and_false, and_self, true_and, false_and, iff_true, iff_false] at e1 eX e3 e4
    iintro ⟨H0, H1, H2, H3, H4, HT0, HT1, HT2, HO, HS, Hk⟩
    sl_exec! (disch := first | sl_exact e1 | sl_exact eX | sl_exact e3 | sl_exact e4)
    sl_step
    iapply Hk
  all_goals
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    clear e1 eX e3 e4
    isplitl [HO]
    · iapply rep_of_owns; unfold owns; iexists _; isplitr; swap
      · iexact HO
      · ipureintro
        try replace ha := ha hu hf
        try subst ha
        sl_unfold_run_names
        repeat first
          | rw [View.read_writes_full] | rw [View.readCov_full] | rw [readCov_half] | rw [View.readAt_rep_full] | rw [View.readAt_writes_full]
          | rw [readAt_half] | rw [read_writes_half] | rw [View.writes_nil] | rw [View.read_rep]
        simp only [outStep, hu, hf, hb, if_true, if_false, reduceIte]
    · iexists (if Used pf (tile i) then k0_pay2 x g else a); isplitr; swap
      · iapply rep_of_owns; unfold owns; iexists _; isplitr; swap
        · iexact HS
        · ipureintro
          try replace ha := ha hu hf
          try subst ha
          sl_unfold_run_names
          first | rw [if_pos hu] | rw [if_neg hu]
          repeat first | rw [View.read_writes_full] | rw [View.readAt_rep_full] | rw [View.read_rep]
      · ipureintro
        exact fun h => if_pos h

end Cert.KernelIdeal.Experts

end
-- ==== Proof.Frame.lean ====
/-
  The experts' call as a pipeline: what each window's staging buffer holds at each point, the output block's course through a
  tile's seven points, the body's obligation, and the launch. The tables are any whose experts are in range.
-/
module

public import proofs.«01_k».proof.Proof.Body
public import Idealize.ShloMosaic.Lib.Pipeline.Quiescent
public import Idealize.ShloMosaic.Lib.Pipeline.Frame
public import Idealize.ShloMosaic.Lib.Pipeline.Value
public import Idealize.ShloMosaic.Lib.Claim
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The grid point of a position. -/
abbrev crd (t : Fin grid0.N) : grid0.Coords := grid0.coords t

theorem crd_tile : ∀ t : Fin grid0.N, (tile (crd t)).val = t.val / 7 := by decide +kernel
theorem crd_part : ∀ t : Fin grid0.N, (part (crd t)).val = t.val % 7 := by decide +kernel

variable (a : (pcfg0 (F := F)).Adm) (V : (c : Dev nD) → (b : Ref sig .tc) → Buf (Elt F) ((c.tc : Thread nD τ).loc b))

/-- Input window `w`'s block at position `t`. -/
abbrev iblk (c : Dev nD) (w : Fin 6) (t : Fin (cfg0 a).N) : (((cfg0 a).win w).block).Idx → Elt F ((cfg0 a).win w).elt :=
  (((cfg0 a).win w).blk t).view.read (Elt F) (V c (Pipeline.arrRef spec0 w))

abbrev ms (t : Fin (cfg0 a).N) (w : Fin 6) := (spec0 w).stage ((cfg0 a).slots t w)

/-- One step of the output block's course. -/
def stepAt (c : Dev nD) (t : Fin (cfg0 a).N) (y : Vec F S1024x1024 .f32) : Vec F S1024x1024 .f32 :=
  outStep a.1 (crd t) (iblk a V c 0 t) (iblk a V c 1 t) (iblk a V c 2 t) (iblk a V c 3 t) (iblk a V c 4 t) y

/-- The output block after position `n`. -/
def traj (c : Dev nD) : (n : ℕ) → n < (cfg0 a).N → Vec F S1024x1024 .f32
  | 0, h => stepAt a V c ⟨0, h⟩ (k0_pay1 (F := F))
  | n + 1, h => stepAt a V c ⟨n + 1, h⟩ (traj c n (Nat.lt_of_succ_lt h))

/-- The output block before position `t`. -/
def prev (c : Dev nD) (t : Fin (cfg0 a).N) : Vec F S1024x1024 .f32 :=
  if h : t.val = 0 then k0_pay1 (F := F) else traj a V c (t.val - 1) (by omega)

theorem traj_eq (c : Dev nD) (t : Fin (cfg0 a).N) : traj a V c t.val t.isLt = stepAt a V c t (prev a V c t) := by
  obtain ⟨n, hn⟩ := t
  cases n with
  | zero => rfl
  | succ n => unfold prev; simp only [Nat.add_one_ne_zero, dif_neg, not_false_eq_true]; rfl

/-- At a tile's first part the step forgets what the block held. -/
theorem stepAt_first (c : Dev nD) (t : Fin (cfg0 a).N) (h : (part (crd t)).val = 0) (y y' : Vec F S1024x1024 .f32) :
    stepAt a V c t y = stepAt a V c t y' := by
  unfold stepAt outStep
  simp only [h, if_true]

/-- The tile's normalised tokens. -/
def xnAt (c : Dev nD) (t : Fin (cfg0 a).N) : Vec F S1024x1024 .bf16 := k0_pay2 (iblk a V c 0 t) (iblk a V c 1 t)

/-- The invariant before position `t`: inside a tile in use the scratch holds the tile's normalised tokens; the tables are at
    their contents; the random-number register is at some state. -/
def Phi (c : Dev nD) (t : Fin ((cfg0 a).N + 1)) : sProp 𝕄 :=
  iprop((∃ s, ⌜∀ h : t.val < (cfg0 a).N, Used a.1 (tile (crd ⟨t.val, h⟩)) → (part (crd ⟨t.val, h⟩)).val ≠ 0 → s = xnAt a V c ⟨t.val, h⟩⌝
      ∗ (scM.view.loc (c : Thread nD τ) ↦[scM.view.set]{fullShare} scM.view.rep s))
    ∗ (tbM0.view.loc (c : Thread nD τ) ↦{fullShare.right} a.1 0)
    ∗ (tbM1.view.loc (c : Thread nD τ) ↦{fullShare.right} a.1 1)
    ∗ (tbM2.view.loc (c : Thread nD τ) ↦{fullShare.right} a.1 2)
    ∗ (∃ r, prngReg c r))

/-- The proof data of the pipeline on core `c`. -/
def dats (c : Dev nD) : Dat τ (Elt F) Unit ℕ (UR sig nD τ) ℕ (cfg0 a) c where
  A w := V c (Pipeline.arrRef spec0 w)
  after w t := match w with
    | ⟨0, _⟩ => iblk a V c (0 : Fin 6) t
    | ⟨1, _⟩ => iblk a V c (1 : Fin 6) t
    | ⟨2, _⟩ => iblk a V c (2 : Fin 6) t
    | ⟨3, _⟩ => iblk a V c (3 : Fin 6) t
    | ⟨4, _⟩ => iblk a V c (4 : Fin 6) t
    | ⟨5, _⟩ => traj a V c t.val t.isLt
  Φ t := Phi a V c t
  q w := Pipeline.shareOf spec0 w
  owed _ := 0

theorem after_5 (c : Dev nD) (t : Fin (cfg0 a).N) : (dats a V c).after (5 : Fin 6) t = traj a V c t.val t.isLt := rfl

/-- An input window holds its block when the body runs. -/
theorem before_in (c : Dev nD) (w : Fin 6) (hw : w ≠ 5) (t : Fin (cfg0 a).N) (d) : (dats a V c).before w t d = iblk a V c w t := by
  refine ((dats a V c).before_in_eq_fetched w ?_ ?_ ?_ ?_ t d).trans ?_
  · fin_cases w <;> first | rfl | exact absurd rfl hw
  · intro i; fin_cases w <;> first | rfl | exact absurd rfl hw
  · intro _ _ _; fin_cases w <;> rfl
  · intro t; unfold Dat.blockOf; fin_cases w <;> first | rfl | exact absurd rfl hw
  · unfold Dat.fetched Dat.blockOf; fin_cases w <;> rfl

/-! ## The output window's schedule -/

theorem idle_eq (t : Fin (cfg0 a).N) :
    (cfg0 a).idle (5 : Fin 6) ((cfg0 a).grid.coords t) = true ↔ (part (crd t)).val ≠ 0 ∧ ¬ Used a.1 (tile (crd t)) := by
  have h1 : a.1.atD 1 ![0] = usedWord a.1 := by
    unfold Pipeline.Prefetch.Contents.atD
    rw [dif_pos (fun b => by fin_cases b; exact Nat.le_refl 1)]
    exact congrArg (a.1 1) (funext fun b => by fin_cases b; rfl)
  have h2 : a.1.atD 2 (k0_off2 (crd t)) = validWord a.1 (tile (crd t)) := by
    unfold Pipeline.Prefetch.Contents.atD
    rw [dif_pos (fun b => by fin_cases b; exact (congrArg (· + 1) (off_eq (crd t))).le.trans (tile (crd t)).isLt)]
    exact congrArg (a.1 2) (funext fun b => Fin.ext (by fin_cases b; exact off_eq (crd t)))
  show (!(k0_cond1 (crd t) == 1#1) && !(k0_cond3 (crd t) (a.1.atD 1 ![0]) (a.1.atD 2 (k0_off2 (crd t))) == 1#1)
    && !(k0_cond4 (crd t) (a.1.atD 1 ![0]) (a.1.atD 2 (k0_off2 (crd t))) == 1#1)) = true ↔ _
  rw [h1, h2]
  simp only [Bool.and_eq_true, Bool.not_eq_true', beq_eq_false_iff_ne, ne_eq, cond1_iff, cond3_iff, cond4_iff]
  tauto

theorem flush_eq (t : Fin (cfg0 a).N) : ((cfg0 a).win (5 : Fin 6)).flush t = decide (t.val % 7 = 6) := by
  have h : ∀ t : Fin grid0.N, Window.flushOf grid0 true cc0_transform_5 t = decide (t.val % 7 = 6) := by decide +kernel
  exact h t

theorem fresh_eq (n : ℕ) (hn : n ≤ (cfg0 a).N) : (cfg0 a).fresh (5 : Fin 6) n = decide (n % 7 = 0) := by
  refine (cfg0 a).fresh_tab (5 : Fin 6) (fun n => decide (n % 7 = 0)) rfl (fun t => ?_) n hn
  rw [flush_eq]
  by_cases h : t.val % 7 = 0
  · have hi : (cfg0 a).idle (5 : Fin 6) ((cfg0 a).grid.coords t) = false := by
      rw [← Bool.not_eq_true, idle_eq]
      exact fun hh => hh.1 ((crd_part t).trans h)
    rw [hi]
    simp only [Bool.false_and, Bool.or_false, decide_eq_decide]
    omega
  · simp only [h, decide_false, Bool.and_false, Bool.or_false, decide_eq_decide]
    omega

/-- A point that stores nothing leaves the block as it was. -/
theorem stepAt_idle (c : Dev nD) (t : Fin (cfg0 a).N) (h : (cfg0 a).idle (5 : Fin 6) ((cfg0 a).grid.coords t) = true) (y : Vec F S1024x1024 .f32) :
    stepAt a V c t y = y := by
  obtain ⟨h1, h2⟩ := (idle_eq a t).1 h
  unfold stepAt outStep
  simp only [h1, h2, if_false]

theorem before_5 (c : Dev nD) (t : Fin (cfg0 a).N) (d) :
    (dats a V c).before (5 : Fin 6) t d = if (part (crd t)).val = 0 then d else prev a V c t := by
  rw [(dats a V c).before_out_traj (5 : Fin 6) rfl (fun _ _ => rfl) ?_ t.val t rfl d, fresh_eq a _ t.isLt.le, crd_part]
  · by_cases h : t.val % 7 = 0
    · simp only [h, decide_true, if_true]
    · simp only [h, decide_false, if_false, Bool.false_eq_true, after_5]
      unfold prev
      rw [dif_neg (fun h0 => h (by rw [h0]))]
  · intro t ht hi _
    rw [after_5, after_5, traj_eq, stepAt_idle a V c t hi]
    unfold prev
    rw [dif_neg ht]

/-! ## The blocks, element by element -/

/-- Row `y` of tile `b`'s tokens. -/
def rowIx (b : Fin 40) (y : Fin 1024) : Fin 40960 := ⟨b.val * 1024 + y.val, by omega⟩
/-- Column `y` of part `p` of the hidden columns. -/
def colIx (p : Fin 7) (y : Fin 512) : Fin 3584 := ⟨p.val * 512 + y.val, by omega⟩

theorem iblk0_apply (c : Dev nD) (t : Fin (cfg0 a).N) (y z : Fin 1024) :
    iblk a V c 0 t (ix2 y z) = (V c main_arg3 : FVec F S40960x1024 .f32) (ix2 (rowIx (rowBlock a.1 (crd t)) y) z) := by
  refine congrArg (V c main_arg3) (funext fun b => Fin.ext ?_)
  refine (Window.rect_emb_val ((cfg0 a).win (0 : Fin 6)) t (ix2 y z) b).trans ?_
  have e : ((cfg0 a).win (0 : Fin 6)).index t = ![(rowBlock a.1 (crd t)).val, 0] := map0_eq a.1 (crd t) _ _
  rw [e]
  fin_cases b
  · rfl
  · exact Nat.zero_add _

/-- The tile's tokens are the same at each of its points. -/
theorem xnAt_succ (c : Dev nD) (n : ℕ) (h : n + 1 < (cfg0 a).N) (hp : (part (crd ⟨n + 1, h⟩)).val ≠ 0) :
    xnAt a V c ⟨n + 1, h⟩ = xnAt a V c ⟨n, Nat.lt_of_succ_lt h⟩ ∧ tile (crd ⟨n + 1, h⟩) = tile (crd ⟨n, Nat.lt_of_succ_lt h⟩) := by
  have ht : tile (crd ⟨n + 1, h⟩) = tile (crd ⟨n, Nat.lt_of_succ_lt h⟩) := by
    rw [crd_part] at hp
    have : (n + 1) % 7 ≠ 0 := hp
    exact Fin.ext (by rw [crd_tile, crd_tile]; show (n + 1) / 7 = n / 7; omega)
  refine ⟨?_, ht⟩
  have hr : rowBlock a.1 (crd ⟨n + 1, h⟩) = rowBlock a.1 (crd ⟨n, Nat.lt_of_succ_lt h⟩) := by unfold rowBlock; rw [ht]
  unfold xnAt
  refine congrArg₂ k0_pay2 (funext fun y => ?_) rfl
  rw [eq_ix2 y]
  exact (iblk0_apply a V c _ _ _).trans ((congrArg (fun b => (V c main_arg3 : FVec F S40960x1024 .f32) (ix2 (rowIx b (y 0)) (y 1))) hr).trans (iblk0_apply a V c _ _ _).symm)

/-! ## The body's obligation -/

set_option maxHeartbeats 4000000 in
theorem sound_body (c : Dev nD) (t : Fin (cfg0 a).N) :
    iprop((dats a V c).Φ t.castSucc ∗ (dats a V c).owesAt () t.castSucc
        ∗ (∃ d, owns (c : Thread nD τ) (ms a t 0) fullShare ((dats a V c).before (0 : Fin 6) t d))
        ∗ (∃ d, owns (c : Thread nD τ) (ms a t 1) fullShare ((dats a V c).before (1 : Fin 6) t d))
        ∗ (∃ d, owns (c : Thread nD τ) (ms a t 2) fullShare ((dats a V c).before (2 : Fin 6) t d))
        ∗ (∃ d, owns (c : Thread nD τ) (ms a t 3) fullShare ((dats a V c).before (3 : Fin 6) t d))
        ∗ (∃ d, owns (c : Thread nD τ) (ms a t 4) fullShare ((dats a V c).before (4 : Fin 6) t d))
        ∗ (∃ d, owns (c : Thread nD τ) (ms a t 5) fullShare ((dats a V c).before (5 : Fin 6) t d)))
      ⊢ wp frame (wpE (defs₀ (F := F)) Variants.none c none) Set.univ
          (cc0_moe_expert (crd t) tbM0 (Memref.isWhole_whole _) tbM1 (Memref.isWhole_whole _) tbM2 (Memref.isWhole_whole _)
            (ms a t 0) (hstage0_0 (((cfg0 a).slots t 0).cast nbuf0_0)) (ms a t 1) (hstage0_1 (((cfg0 a).slots t 1).cast nbuf0_1))
            (ms a t 2) (hstage0_2 (((cfg0 a).slots t 2).cast nbuf0_2)) (ms a t 3) (hstage0_3 (((cfg0 a).slots t 3).cast nbuf0_3))
            (ms a t 4) (hstage0_4 (((cfg0 a).slots t 4).cast nbuf0_4)) (ms a t 5) (hstage0_5 (((cfg0 a).slots t 5).cast nbuf0_5))
            scM (Memref.isWhole_whole _)) fun _ =>
          iprop((dats a V c).Φ t.succ ∗ (dats a V c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V c).before w t d))
                  | true => owns (c : Thread nD τ) (((cfg0 a).win w).stage ((cfg0 a).slots t w)) fullShare ((dats a V c).after w t)
                | false => owns (c : Thread nD τ) (((cfg0 a).win w).stage ((cfg0 a).slots t w)) fullShare ((dats a V c).after w t)) := by
  rw [bigSep_W0]
  simp only [before_in a V c (0 : Fin 6) (by decide), before_in a V c (1 : Fin 6) (by decide), before_in a V c (2 : Fin 6) (by decide),
    before_in a V c (3 : Fin 6) (by decide), before_in a V c (4 : Fin 6) (by decide)]
  rewrite [show (dats a V c).Φ t.succ = Phi a V c t.succ from rfl, show (dats a V c).Φ t.castSucc = Phi a V c t.castSucc from rfl,
      show (dats a V c).owesAt () t.succ = (dats a V c).owesAt () t.castSucc from rfl]
  unfold Phi
  iintro ⟨⟨⟨%s, %hs, HS⟩, HT0, HT1, HT2, HR⟩, Ho, ⟨%d0, H0⟩, ⟨%d1, H1⟩, ⟨%d2, H2⟩, ⟨%d3, H3⟩, ⟨%d4, H4⟩, ⟨%d5, H5⟩⟩
  have hs' := hs t.isLt
  have hstep : outStep a.1 (crd t) (iblk a V c 0 t) (iblk a V c 1 t) (iblk a V c 2 t) (iblk a V c 3 t) (iblk a V c 4 t) ((dats a V c).before (5 : Fin 6) t d5)
      = traj a V c t.val t.isLt := by
    rw [traj_eq, before_5]
    by_cases h : (part (crd t)).val = 0
    · exact stepAt_first a V c t h _ _
    · rw [if_neg h]; rfl
  iapply (body_run a.1 c (crd t) (ms a t 0) (hstage0_0 (((cfg0 a).slots t 0).cast nbuf0_0)) (ms a t 1) (hstage0_1 (((cfg0 a).slots t 1).cast nbuf0_1))
            (ms a t 2) (hstage0_2 (((cfg0 a).slots t 2).cast nbuf0_2)) (ms a t 3) (hstage0_3 (((cfg0 a).slots t 3).cast nbuf0_3))
            (ms a t 4) (hstage0_4 (((cfg0 a).slots t 4).cast nbuf0_4)) (ms a t 5) (hstage0_5 (((cfg0 a).slots t 5).cast nbuf0_5))
            (iblk a V c 0 t) (iblk a V c 1 t) (iblk a V c 2 t) (iblk a V c 3 t) (iblk a V c 4 t) ((dats a V c).before (5 : Fin 6) t d5) s hs')
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HT2]; · iexact HT2
  isplitl [H5]; · iapply rep_of_owns; iexact H5
  isplitl [HS]; · iexact HS
  rw [hstep]
  iintro ⟨H0, H1, H2, H3, H4, HT0, HT1, HT2, H5, ⟨%s', %hs2, HS⟩⟩
  isplitl [HS HT0 HT1 HT2 HR]
  · isplitl [HS]
    · iexists s'; isplitr; swap
      · iexact HS
      · ipureintro; intro h hu hp
        obtain ⟨e1, e2⟩ := xnAt_succ a V c t.val h hp
        exact (hs2 (by rw [← e2]; exact hu)).trans e1.symm
    isplitl [HT0]
    · iexact HT0
    isplitl [HT1]
    · iexact HT1
    isplitl [HT2]
    · iexact HT2
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  cases hi : idle0 a.1 (5 : Fin 6) ((pcfg0.gridAt a.1).coords t)
  · iapply owns_of_rep; iexact H5
  · cases hfl : ((pcfg0 (F := F)).win a (5 : Fin 6)).flush t
    · iexists d5; iapply owns_of_rep
      rw [← hstep, show outStep a.1 (crd t) (iblk a V c 0 t) (iblk a V c 1 t) (iblk a V c 2 t) (iblk a V c 3 t) (iblk a V c 4 t) ((dats a V c).before (5 : Fin 6) t d5)
        = (dats a V c).before (5 : Fin 6) t d5 from stepAt_idle a V c t hi _]
      iexact H5
    · iapply owns_of_rep; iexact H5

theorem body_obligation (c : Dev nD) : BodyObligation (dats a V c) (defs₀ (F := F)) Variants.none () Set.univ := fun t => by
  rw [bigSep_W0]
  exact sound_body a V c t

end Cert.KernelIdeal.Experts

end
-- ==== Proof.Launch.lean ====
/-
  The launch of the experts' call: from any memory whose table of experts is in range the program runs to its end, every
  argument array unchanged, every semaphore counter at zero and the result at the course's last blocks. The tables the
  pipeline runs at are the ones the memory holds.
-/
module

public import proofs.«01_k».proof.Proof.Frame

@[expose] public section

set_option maxRecDepth 16384
set_option Elab.async false

noncomputable section

namespace Cert.KernelIdeal.Experts

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (V : (c : Dev nD) → (b : Ref sig .tc) → Buf (Elt F) ((c.tc : Thread nD τ).loc b))

/-- The three tables as the region holds them, one by one. -/
theorem tables_held (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((tbM0.view.loc (c : Thread nD τ) ↦{q 0} v 0) ∗ (tbM1.view.loc (c : Thread nD τ) ↦{q 1} v 1)
        ∗ (tbM2.view.loc (c : Thread nD τ) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The region's scratch and tables make the invariant at the first point, -/
theorem phi_intro (c : Dev nD) :
    iprop(Pipeline.ΦA spec0 c ∗ Pipeline.ΦT pre0 a.1 c) ⊢ (dats a V c).Φ 0 := by
  unfold Pipeline.ΦT Pipeline.ΦA
  rw [tables_held, scopedRest0_eq, show (dats a V c).Φ 0 = Phi a V c 0 from rfl]
  unfold Phi
  iintro ⟨⟨⟨%f, HS⟩, HR⟩, HT0, HT1, HT2⟩
  isplitl [HS]
  · iexists scM.view.read (Elt F) f
    isplitr; swap
    · iapply rep_of_owns; unfold owns; iexists f; isplitr; swap
      · rw [show scM.view.set = Finset.univ from View.set_whole _]; iexact HS
      · ipureintro; rfl
    · ipureintro; intro h _ hp; exact absurd ((crd_part _).trans rfl) hp
  isplitl [HT0]
  · iexact HT0
  isplitl [HT1]
  · iexact HT1
  isplitl [HT2]
  · iexact HT2
  iexact HR

/-- and the invariant at the last gives the scratch back. -/
theorem phi_exit (c : Dev nD) : (dats a V c).Φ (Fin.last (cfg0 a).N) ⊢ Pipeline.ΦA spec0 c := by
  unfold Pipeline.ΦA
  rw [scopedRest0_eq, show (dats a V c).Φ (Fin.last (cfg0 a).N) = Phi a V c (Fin.last _) from rfl]
  unfold Phi
  iintro ⟨⟨%s, -, HS⟩, -, -, -, HR⟩
  isplitr [HR]
  · iexists scM.view.rep s
    rw [← show scM.view.set = Finset.univ from View.set_whole _]
    iexact HS
  iexact HR

variable (m : (ℓ : Loc nD τ sig) → Buf (Elt F) ℓ) (ρ : Dev nD → PrngReg)

/-- The tables the memory holds. -/
def tables : pre0.Contents (Elt F) := fun k => m (((0 : Dev nD).tc : Thread nD τ).loc (pre0.ref k))

/-- The memory at the region: the host's reshape done. -/
def entry (c : Dev nD) (b : Ref sig .tc) : Buf (Elt F) ((c.tc : Thread nD τ).loc b) :=
  StableHlo.after (hostOps0 (F := F)) (fun b => m (c, b)) b

/-- An array the host's reshape does not write is at the region what it was. -/
theorem entry_eq (c : Dev nD) (b : Ref sig .tc) (hb : b ≠ main_v0) : entry m c b = m ((c.tc : Thread nD τ).loc b) := by
  unfold entry
  simp only [StableHlo.after_cons, StableHlo.after_nil]
  exact StableHlo.reshape_result_ne (h := hb) ..

variable (hr : InRange (tables m))

/-- The tables in memory admitted by the pipeline. -/
def adm : (pcfg0 (F := F)).Adm := ⟨tables m, ok_of_inRange _ hr⟩

include hr in
set_option backward.isDefEq.respectTransparency.types false in
set_option maxHeartbeats 4000000 in
/-- The run: every array at the course's last contents, every other buffer as it entered, every counter zero. -/
theorem run_main : θ_run (defs (F := F)) (onTc (τ := τ) (main (F := F))) ⟨m, fun _ => 0, ρ⟩ (fun r =>
    (∀ c : Dev nD, (∀ w : Fin 6, r.2.mem (((spec0 w).arr).view.loc (c.tc : Thread nD τ)) = (dats (adm m hr) (entry m) c).arrAt w (cfg0 (adm m hr)).N)
      ∧ ∀ b ∈ Pipeline.restRefs sig spec0, r.2.mem ((c.tc : Thread nD τ).loc b) = entry m c b)
    ∧ r.2.sem = fun _ => 0) :=
  Pipeline.θ_run_frameP_track_shared (pcfgs (F := F)) (fun _ => adm m hr) (fun _ c => dats (adm m hr) (entry m) c) (0 : Fin 1)
    launch₀0 defs₀ Variants.none m ρ main
    (hbody := fun c => (body_obligation (adm m hr) (entry m) c).loose)
    (hq := fun _ _ _ => rfl) (howed := fun _ _ => rfl) (V := entry m)
    (hmain := Pipeline.hmainP_prefix (pcfgs (F := F)) 0 defs₀ Variants.none m main hostOps0 hostOps0_sub rfl main_chain)
    (hA := fun _ _ => rfl)
    (hpf := fun c k => by
      rw [Subsingleton.elim c 0]
      exact (entry_eq m 0 _ ((by decide : ∀ k : Fin 3, pre0.ref k ≠ main_v0) k)).trans rfl)
    (hin := phi_intro (adm m hr) (entry m)) (hout := phi_exit (adm m hr) (entry m))
    (Q' := _) (hQ' := fun _ h => h)

include hr in
/-- The argument arrays end unchanged, every counter zero, and the result at the course's last contents. -/
theorem frame : θ_run (defs (F := F)) (onTc (τ := τ) (main (F := F))) ⟨m, fun _ => 0, ρ⟩ (fun r =>
    (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v1) = (dats (adm m hr) (entry m) c).arrAt (5 : Fin 6) (cfg0 (adm m hr)).N)
    ∧ r.2.sem = fun _ => 0) :=
  (θ_run defs _ _).mono (fun r h => ⟨fun c => by
    obtain ⟨h1, h2⟩ := h.1 c
    have he := entry_eq m c
    exact ⟨⟨(h2 main_arg0 (by decide)).trans (he _ (by decide)), (h2 main_arg1 (by decide)).trans (he _ (by decide)),
      (h2 main_arg2 (by decide)).trans (he _ (by decide)),
      ((h1 0).trans ((dats (adm m hr) (entry m) c).arrAt_in (0 : Fin 6) rfl _)).trans (he main_arg3 (by decide)),
      (h2 main_arg4 (by decide)).trans (he _ (by decide)),
      ((h1 2).trans ((dats (adm m hr) (entry m) c).arrAt_in (2 : Fin 6) rfl _)).trans (he main_arg5 (by decide)),
      ((h1 4).trans ((dats (adm m hr) (entry m) c).arrAt_in (4 : Fin 6) rfl _)).trans (he main_arg6 (by decide))⟩, h1 5⟩, h.2⟩)
    (run_main m ρ hr)

end Cert.KernelIdeal.Experts

end
-- ==== Proof.Mask.lean ====
/-
  What the mask and the precondition say, word by word: a row of the mask belongs to a tile in use and lies among the tile's
  filled rows; every tile's expert is below eight.
-/
module

public import proofs.«01_k».proof.Proof.Gen.Pre_experts_in_range
public import proofs.«01_k».proof.Proof.Gen.On_routed_rows
public import Idealize.ShloMosaic.Lib.WordCmp
public import Idealize.ShloMosaic.Lib.Affine
public import Idealize.ShloMosaic.Lib.ValueIdx
public import Idealize.ShloMosaic.Lib.Pipeline.Value

@[expose] public section

noncomputable section

namespace Cert.Experts

open Idealize.ShloMosaic Idealize.ShloMosaic.ValueIdx Idealize.ShloMosaic.WordCmp

variable {F : FTy → Type} [FloatOps F]

/-- The tile of a row of the sorted tokens. -/
def tileOf (n : Fin 40960) : Fin 40 := ⟨n.val / 1024, by omega⟩

/-- The precondition at a tile: its expert is one of the eight. -/
theorem experts_lt {te : IVec ⟨1, ![40]⟩ 32} {nu : IVec ⟨1, ![1]⟩ 32} {nv : IVec ⟨1, ![40]⟩ 32} {x g w d}
    (h : Cert.Pre_experts_in_range.fn (F := F) te nu nv x g w d = fun _ => 1#1) (i : Fin 40) : (te (ix1 i)).toNat < 8 := by
  have h' : IntOp.andi (IntOp.cmpi .sge (te (ix1 i)) 0#32) (IntOp.cmpi .slt (te (ix1 i)) (BitVec.ofNat 32 8)) = 1#1 := congrFun h (ix1 i)
  rw [andi_sge_zero_slt_ofNat (by decide)] at h'
  exact (ofBool_decide_eq_one_iff _).1 h'

/-- The sign of a word, as `jnp.sign` prints it. -/
def signWord (x : BitVec 32) : BitVec 32 := if x = 0 then 0 else if x.msb then -1 else 1

/-- The quotient rounded down by 1024, as `jnp`'s floor division prints it. -/
def quotWord (x : BitVec 32) : BitVec 32 :=
  Scalar.select (IntOp.andi (IntOp.cmpi .ne (signWord x) (signWord 1024#32)) (IntOp.cmpi .ne (IntOp.remsi .host x 1024#32) 0#32))
    (IntOp.subi (IntOp.divsi .host x 1024#32) 1#32) (IntOp.divsi .host x 1024#32)

/-- The remainder by 1024, as `jnp`'s remainder prints it. -/
def remWord (x : BitVec 32) : BitVec 32 :=
  Scalar.select (IntOp.andi (IntOp.cmpi .ne (IntOp.cmpi .slt (IntOp.remsi .host x 1024#32) 0#32) (0#1))
      (IntOp.cmpi .ne (IntOp.remsi .host x 1024#32) 0#32))
    (IntOp.addi (IntOp.remsi .host x 1024#32) 1024#32) (IntOp.remsi .host x 1024#32)

theorem rem_eq (n : ℕ) (h : n < 40960) : IntOp.remsi .host (BitVec.ofNat 32 n) 1024#32 = BitVec.ofNat 32 (n % 1024) := by
  apply BitVec.eq_of_toNat_eq
  have e : (BitVec.ofNat 32 n).toNat = n := by rw [BitVec.toNat_ofNat]; omega
  rw [show (1024#32 : BitVec 32) = BitVec.ofNat 32 1024 from rfl, IntOp.toNat_remsi .host (by rw [e]; omega) 1024 (by decide) (by decide), e,
    BitVec.toNat_ofNat]
  omega

theorem quot_eq (n : ℕ) (h : n < 40960) : IntOp.divsi .host (BitVec.ofNat 32 n) 1024#32 = BitVec.ofNat 32 (n / 1024) := by
  have e : (BitVec.ofNat 32 n).toNat = n := by rw [BitVec.toNat_ofNat]; omega
  have hm : (BitVec.ofNat 32 n).msb = false := by rw [BitVec.msb_eq_false_iff_two_mul_lt, e]; omega
  unfold IntOp.divsi
  rw [if_neg (IntOp.not_corner_of_pos (by decide)), BitVec.sdiv_eq, hm, show (1024#32 : BitVec 32).msb = false from by decide]
  apply BitVec.eq_of_toNat_eq
  show ((BitVec.ofNat 32 n).udiv 1024#32).toNat = _
  have e' : (BitVec.ofNat 32 (n / 1024)).toNat = n / 1024 := by rw [BitVec.toNat_ofNat]; omega
  rw [BitVec.udiv_eq, BitVec.toNat_udiv, e, e']
  rfl

theorem quotWord_eq (n : ℕ) (h : n < 40960) : quotWord (BitVec.ofNat 32 n) = BitVec.ofNat 32 (n / 1024) := by
  have e : (BitVec.ofNat 32 n).toNat = n := by rw [BitVec.toNat_ofNat]; omega
  have hm : (BitVec.ofNat 32 n).msb = false := by rw [BitVec.msb_eq_false_iff_two_mul_lt, e]; omega
  unfold quotWord
  rw [rem_eq n h, quot_eq n h]
  have hc : IntOp.andi (IntOp.cmpi .ne (signWord (BitVec.ofNat 32 n)) (signWord 1024#32)) (IntOp.cmpi .ne (BitVec.ofNat 32 (n % 1024)) 0#32) = 0#1 := by
    by_cases h0 : n = 0
    · subst h0; decide
    · have hs : signWord (BitVec.ofNat 32 n) = 1 := by
        unfold signWord
        rw [if_neg (fun hh => h0 (by rw [← e, hh]; rfl)), hm]; rfl
      rw [hs, show IntOp.cmpi .ne (1 : BitVec 32) (signWord 1024#32) = 0#1 from by decide]
      generalize IntOp.cmpi .ne (BitVec.ofNat 32 (n % 1024)) 0#32 = q
      revert q; decide
  rw [hc]; rfl

theorem remWord_eq (n : ℕ) (h : n < 40960) : remWord (BitVec.ofNat 32 n) = BitVec.ofNat 32 (n % 1024) := by
  unfold remWord
  rw [rem_eq n h]
  have hc : IntOp.cmpi .ne (IntOp.cmpi .slt (BitVec.ofNat 32 (n % 1024)) 0#32) (0#1) = 0#1 := by
    rw [show (0#32 : BitVec 32) = BitVec.ofNat 32 0 from rfl, cmpi_slt_ofNat (by show n % 1024 < 2 ^ 31; omega) (by decide)]
    rw [decide_eq_false (Nat.not_lt_zero _)]; decide
  rw [hc, show IntOp.andi (0#1) (IntOp.cmpi .ne (BitVec.ofNat 32 (n % 1024)) 0#32) = 0#1 from by
    generalize IntOp.cmpi .ne (BitVec.ofNat 32 (n % 1024)) 0#32 = q
    revert q; decide]
  rfl

/-- A row of the mask belongs to a tile in use and is among the tile's filled rows. -/
theorem routed {te : IVec ⟨1, ![40]⟩ 32} {nu : IVec ⟨1, ![1]⟩ 32} {nv : IVec ⟨1, ![40]⟩ 32} {x g w d}
    (n : Fin 40960) (z : Fin 1024) (h : Cert.On_routed_rows.fn (F := F) te nu nv x g w d (ix2 n z) = 1#1) :
    ((tileOf n).val : ℤ) < (nu (ix1 (n := 1) 0)).toInt ∧ ((n.val % 1024 : ℕ) : ℤ) < (nv (ix1 (tileOf n))).toInt := by
  have hv : ∀ (hc) (h1) (h2) (h3), broadcastInDim (⟨2, ![40960, 1024]⟩ : Shape) ![0, 1] h1 (broadcastInDim (⟨2, ![40960, 1]⟩ : Shape) ![0] h2
      (shapeCast (⟨1, ![40960]⟩ : Shape) (broadcastInDim (⟨2, ![40, 1024]⟩ : Shape) ![0] h3 nv) hc)) (ix2 n z) = nv (ix1 (tileOf n)) := by
    intro hc h1 h2 h3
    refine (broadcastInDim_apply _ _ _ _ (ix2 n 0) (fun a => by fin_cases a <;> rfl)).trans ?_
    refine (broadcastInDim_apply _ _ _ _ (ix1 n) (fun a => by fin_cases a; rfl)).trans ?_
    refine (shapeCast_apply _ _ _ (ix2 (tileOf n) (⟨n.val % 1024, by omega⟩ : Fin 1024)) ?_).trans ?_
    · rw [Shape.rowMajor_val_two, Shape.rowMajor_val_one]
      show n.val / 1024 * 1024 + n.val % 1024 = n.val
      omega
    · exact broadcastInDim_apply _ _ _ _ (ix1 (tileOf n)) (fun a => by fin_cases a; rfl)
  have h' : IntOp.andi (IntOp.cmpi .slt (quotWord (BitVec.ofNat 32 n.val)) (nu (ix1 (n := 1) 0)))
      (IntOp.cmpi .slt (remWord (BitVec.ofNat 32 n.val)) (nv (ix1 (tileOf n)))) = 1#1 := by
    refine Eq.trans (congrArg₂ IntOp.andi (congrArg₂ (IntOp.cmpi .slt) ?_ ?_) (congrArg₂ (IntOp.cmpi .slt) ?_ (hv _ _ _ _).symm)) h
    · rfl
    · exact congrArg nu (funext fun a => by fin_cases a; exact Subsingleton.elim (α := Fin 1) _ _)
    · rfl
  rw [quotWord_eq n.val n.isLt, remWord_eq n.val n.isLt, cmpi_slt_eq, cmpi_slt_eq, andi_ofBool, ofBool_eq_one_iff,
    Bool.and_eq_true, decide_eq_true_iff, decide_eq_true_iff, toInt_ofNat_of_lt (by show _ < 2 ^ 31; omega),
    toInt_ofNat_of_lt (by show _ < 2 ^ 31; omega)] at h'
  exact h'

end Cert.Experts

end
-- ==== Proof.Runs.lean ====
/-
  The claims that the programs run, leave their arguments as they were and leave every semaphore counter at zero.
-/
module

public import proofs.«01_k».proof.Defs
public import proofs.«01_k».proof.Proof.Launch
public import proofs.«01_k».proof.Proof.Mask
public import proofs.«01_k».proof.Proof.Gen.Kernel
public import proofs.«01_k».proof.Proof.Gen.Kernel.Skeleton
public import proofs.«01_k».proof.Proof.Gen.ReferenceIdeal
public import proofs.«01_k».proof.Proof.Gen.ReferenceIdeal.Run

@[expose] public section

noncomputable section

namespace Cert.Experts

open Idealize.ShloMosaic Idealize.ShloMosaic.TcCoe Idealize.ShloMosaic.ValueIdx Idealize.SL.Sem

/-- The precondition puts every tile's expert among the eight. -/
theorem inRange_ideal (m : (ℓ : Loc Cert.KernelIdeal.nD Cert.KernelIdeal.τ Cert.KernelIdeal.sig) → Buf (Elt Ideal) ℓ)
    (h : Cert.Pre_KernelIdeal m) : Cert.KernelIdeal.Experts.InRange (Cert.KernelIdeal.Experts.tables m) :=
  fun i => experts_lt (h 0) i

theorem runs_ideal : Cert.quiescent_KernelIdeal := fun m ρ h =>
  (θ_run _ _ _).mono (fun _ hr => ⟨fun c => (hr.1 c).1, hr.2⟩) (Cert.KernelIdeal.Experts.frame m ρ (inRange_ideal m h))

/-! The kernel and its reading at the ideal values are one program, written out twice: nothing was rewritten between them. -/

theorem bodies_eq : Cert.Kernel.defs₀ (F := Bits) = Cert.KernelIdeal.defs₀ (F := Bits) := by
  unfold Cert.Kernel.defs₀ Cert.KernelIdeal.defs₀
  refine congrArg Defs.onTc (funext fun ⟨l, hl⟩ => ?_)
  match l, hl with
  | 0, _ => funext ⟨t, s⟩; rfl
  | l + 1, h => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs Cert.KernelIdeal.pcfgs) bodies_eq

theorem main_eq : Cert.Kernel.main (F := Bits) = Cert.KernelIdeal.main (F := Bits) := by rfl

/-- A run of the ideal reading's text, at whatever definitions and main are equal to its own. -/
theorem frame_of_eq (m : (ℓ : Loc Cert.KernelIdeal.nD Cert.KernelIdeal.τ Cert.KernelIdeal.sig) → Buf (Elt Bits) ℓ) (ρ : Dev Cert.KernelIdeal.nD → PrngReg)
    (hr : Cert.KernelIdeal.Experts.InRange (Cert.KernelIdeal.Experts.tables m)) (d mn) (hd : d = Cert.KernelIdeal.defs (F := Bits))
    (hm : mn = Cert.KernelIdeal.main (F := Bits)) :
    θ_run d (onTc (τ := Cert.KernelIdeal.τ) mn) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) := by
  subst hd hm
  exact (θ_run _ _ _).mono (fun _ h => ⟨fun c => (h.1 c).1, h.2⟩) (Cert.KernelIdeal.Experts.frame m ρ hr)

theorem runs_kernel : Cert.quiescent_Kernel := fun m ρ h =>
  frame_of_eq m ρ (fun i => experts_lt (h 0) i) _ _ defs_eq main_eq

theorem runs_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

theorem runs_reference_in_range : Cert.quiescent_ReferenceIdeal_pre_experts_in_range := fun m ρ _ => runs_reference m ρ trivial

end Cert.Experts

end
-- ==== Proof.Blocks.lean ====
/-
  What the pipeline of the experts' call reads and leaves, element by element: every staged block as elements of its array, and
  the result's array as the output block at each tile's last part.
-/
module

public import proofs.«01_k».proof.Proof.Launch
public import Idealize.ShloMosaic.Lib.Pointwise

@[expose] public section

set_option maxRecDepth 16384
set_option Elab.async false

noncomputable section

namespace Cert.KernelIdeal.Experts

open Cert.KernelIdeal Cert.KernelIdeal.Gen
open Idealize.ShloMosaic Idealize.ShloMosaic.TcCoe
open Idealize.ShloMosaic.Pipeline (Dat Cfg Window)

variable {F : FTy → Type} [FloatOps F]
variable (a : (pcfg0 (F := F)).Adm) (V : (c : Dev nD) → (b : Ref sig .tc) → Buf (Elt F) ((c.tc : Thread nD τ).loc b))

/-- The grid point of tile `b` and part `p`. -/
def pointOf (b : Fin 40) (p : ℕ) (hp : p < 7) : Fin (cfg0 a).N := ⟨b.val * 7 + p, by have := N_0; show _ < grid0.N; omega⟩

theorem tile_pointOf (b : Fin 40) (p : ℕ) (hp : p < 7) : tile (crd (pointOf a b p hp)) = b :=
  Fin.ext ((crd_tile (pointOf a b p hp)).trans (by show (b.val * 7 + p) / 7 = b.val; omega))

theorem part_pointOf (b : Fin 40) (p : ℕ) (hp : p < 7) : part (crd (pointOf a b p hp)) = ⟨p, hp⟩ :=
  Fin.ext ((crd_part (pointOf a b p hp)).trans (by show (b.val * 7 + p) % 7 = p; omega))

/-! ## The staged blocks -/

theorem tokens_apply (c : Dev nD) (t : Fin (cfg0 a).N) (y z : Fin 1024) :
    iblk a V c 0 t (ix2 y z) = (V c main_arg3 : FVec F S40960x1024 .f32) (ix2 (rowIx (rowBlock a.1 (crd t)) y) z) :=
  iblk0_apply a V c t y z

theorem scale_apply (c : Dev nD) (t : Fin (cfg0 a).N) (k : Fin 1024) :
    iblk a V c 1 t (ix2 0 k) = (V c main_v0 : FVec F S1x1024 .f32) (ix2 0 k) := by
  refine congrArg (V c main_v0) (funext fun b => Fin.ext ?_)
  refine (Window.rect_emb_val ((cfg0 a).win (1 : Fin 6)) t (ix2 0 k) b).trans ?_
  have e : ((cfg0 a).win (1 : Fin 6)).index t = ![0, 0] := rfl
  rw [e]
  fin_cases b
  · rfl
  · exact Nat.zero_add _

/-- The expert of a point's tile, as an index of the weights. -/
def expertAt (h : InRange a.1) (i : grid0.Coords) : Fin 8 := ⟨(expertWord a.1 (tile i)).toNat, h (tile i)⟩

theorem gate_apply (h : InRange a.1) (c : Dev nD) (t : Fin (cfg0 a).N) (k : Fin 1024) (q : Fin 512) :
    iblk a V c 2 t (ix4 0 0 k q) = (V c main_arg5 : FVec F S2x8x1024x7168 .f32)
      (ix4 0 (expertAt a h (crd t)) k ⟨(colIx (colBlock a.1 (crd t)) q).val, by omega⟩) := by
  refine congrArg (V c main_arg5) (funext fun b => Fin.ext ?_)
  refine (Window.rect_emb_val ((cfg0 a).win (2 : Fin 6)) t (ix4 0 0 k q) b).trans ?_
  have e : ((cfg0 a).win (2 : Fin 6)).index t = ![0, (expertWord a.1 (tile (crd t))).toNat, 0, (colBlock a.1 (crd t)).val] := map2_eq a.1 (crd t) _ _ _
  rw [e]
  fin_cases b
  · rfl
  · exact Nat.mul_one _
  · exact Nat.zero_add _
  · rfl

theorem up_apply (h : InRange a.1) (c : Dev nD) (t : Fin (cfg0 a).N) (k : Fin 1024) (q : Fin 512) :
    iblk a V c 3 t (ix4 0 0 k q) = (V c main_arg5 : FVec F S2x8x1024x7168 .f32)
      (ix4 0 (expertAt a h (crd t)) k ⟨3584 + (colIx (colBlock a.1 (crd t)) q).val, by omega⟩) := by
  refine congrArg (V c main_arg5) (funext fun b => Fin.ext ?_)
  refine (Window.rect_emb_val ((cfg0 a).win (3 : Fin 6)) t (ix4 0 0 k q) b).trans ?_
  have e : ((cfg0 a).win (3 : Fin 6)).index t = ![0, (expertWord a.1 (tile (crd t))).toNat, 0, 7 + (colBlock a.1 (crd t)).val] := map3_eq a.1 (crd t) _ _ _
  rw [e]
  fin_cases b
  · rfl
  · exact Nat.mul_one _
  · exact Nat.zero_add _
  · show (7 + (colBlock a.1 (crd t)).val) * 512 + q.val = 3584 + ((colBlock a.1 (crd t)).val * 512 + q.val)
    omega

theorem down_apply (h : InRange a.1) (c : Dev nD) (t : Fin (cfg0 a).N) (q : Fin 512) (z : Fin 1024) :
    iblk a V c 4 t (ix4 0 0 q z) = (V c main_arg6 : FVec F S2x8x3584x1024 .f32)
      (ix4 0 (expertAt a h (crd t)) (colIx (colBlock a.1 (crd t)) q) z) := by
  refine congrArg (V c main_arg6) (funext fun b => Fin.ext ?_)
  refine (Window.rect_emb_val ((cfg0 a).win (4 : Fin 6)) t (ix4 0 0 q z) b).trans ?_
  have e : ((cfg0 a).win (4 : Fin 6)).index t = ![0, (expertWord a.1 (tile (crd t))).toNat, (colBlock a.1 (crd t)).val, 0] := map4_eq a.1 (crd t) _ _ _
  rw [e]
  fin_cases b
  · rfl
  · exact Nat.mul_one _
  · rfl
  · exact Nat.zero_add _

/-! ## The result's array -/

/-- The array whose blocks are the output block at each tile's last part. -/
def lastBlocks (c : Dev nD) : FVec F S40960x1024 .f32 := fun i =>
  traj a V c (pointOf a ⟨(i 0).val / 1024, by have : (i 0).val < 40960 := (i 0).isLt; omega⟩ 6 (by decide)).val (Fin.isLt _)
    (ix2 ⟨(i 0).val % 1024, Nat.mod_lt _ (by decide)⟩ (i 1))

theorem emb5 (t : Fin (cfg0 a).N) (y : S1024x1024.Idx) :
    (((cfg0 a).win (5 : Fin 6)).blk t).view.emb y = (ix2 (rowIx (tile (crd t)) (y 0)) (y 1) : S40960x1024.Idx) := by
  refine funext fun b => Fin.ext ?_
  refine (Window.rect_emb_val ((cfg0 a).win (5 : Fin 6)) t y b).trans ?_
  have e : ((cfg0 a).win (5 : Fin 6)).index t = ![(tile (crd t)).val, 0] := map5_eq (crd t)
  rw [e]
  fin_cases b
  · rfl
  · exact Nat.zero_add _

theorem flushed_eq (c : Dev nD) (t : Fin (cfg0 a).N) (hf : ((cfg0 a).win (5 : Fin 6)).flush t = true) :
    (dats a V c).flushed (5 : Fin 6) t = (((cfg0 a).win (5 : Fin 6)).blk t).view.read (Elt F) (lastBlocks a V c) := by
  have h6 : t.val % 7 = 6 := by rw [flush_eq] at hf; exact of_decide_eq_true hf
  refine funext fun (y : S1024x1024.Idx) => ?_
  show traj a V c t.val t.isLt y = lastBlocks a V c ((((cfg0 a).win (5 : Fin 6)).blk t).view.emb y)
  rw [emb5]
  unfold lastBlocks
  have hy : (y 0).val < 1024 := (y 0).isLt
  have ht := crd_tile t
  have e0 : (rowIx (tile (crd t)) (y 0)).val = t.val / 7 * 1024 + (y 0).val := by rw [← ht]; rfl
  have e1 : t = pointOf a ⟨(rowIx (tile (crd t)) (y 0)).val / 1024, by omega⟩ 6 (by decide) :=
    Fin.ext (by show t.val = (rowIx (tile (crd t)) (y 0)).val / 1024 * 7 + 6; omega)
  have e2 : y = ix2 ⟨(rowIx (tile (crd t)) (y 0)).val % 1024, Nat.mod_lt _ (by decide)⟩ (y 1) := by
    refine (eq_ix2 y).trans ?_
    refine congrArg (fun u => ix2 u (y 1)) (Fin.ext ?_)
    show (y 0).val = (rowIx (tile (crd t)) (y 0)).val % 1024
    omega
  refine Eq.trans ?_ (congrArg (fun s : Fin (cfg0 a).N => traj a V c s.val s.isLt _) e1)
  exact congrArg (traj a V c t.val t.isLt) e2

/-- The result at row `y` of tile `b` is the output block there at the tile's last part. -/
theorem result_row (c : Dev nD) (b : Fin 40) (y z : Fin 1024) :
    (dats a V c).arrAt (5 : Fin 6) (cfg0 a).N (ix2 (rowIx b y) z : S40960x1024.Idx)
      = traj a V c (pointOf a b 6 (by decide)).val (Fin.isLt _) (ix2 y z) := by
  have hf : ((cfg0 a).win (5 : Fin 6)).flush (pointOf a b 6 (by decide)) = true := by
    rw [flush_eq]
    exact decide_eq_true (by show (b.val * 7 + 6) % 7 = 6; omega)
  have hm := (((cfg0 a).win (5 : Fin 6)).blk (pointOf a b 6 (by decide))).view.emb_mem_set (ix2 y z : S1024x1024.Idx)
  rw [emb5, tile_pointOf] at hm
  refine ((dats a V c).arrAt_apply_of_mem (5 : Fin 6) (lastBlocks a V c) (flushed_eq a V c) _ _ _ (Fin.isLt _) hf hm).trans ?_
  have hr : (rowIx b y).val = b.val * 1024 + y.val := rfl
  unfold lastBlocks
  refine congrArg₂ (fun (s : Fin (cfg0 a).N) (u : Fin 1024) => traj a V c s.val s.isLt (ix2 u z)) (Fin.ext ?_) (Fin.ext ?_)
  · show (rowIx b y).val / 1024 * 7 + 6 = b.val * 7 + 6
    omega
  · show (rowIx b y).val % 1024 = y.val
    omega

end Cert.KernelIdeal.Experts

end
-- ==== Proof.Spec.lean ====
/-
  The mathematics both programs are read as: a token normalised by its root mean square, and an expert's gated feed-forward layer
  applied to it, over the extended reals.
-/
module

public import Idealize.ShloMosaic.PureOps.Ideal
public import Idealize.ShloMosaic.Lib.Pointwise

@[expose] public section

noncomputable section

namespace Cert.Experts

open Idealize.ShloMosaic

/-- Column `z` of a token `x` divided by its root mean square and scaled by `g`. -/
def rmsRow (x g : Fin 1024 → EReal) (z : Fin 1024) : EReal :=
  x z * Ideal.rsqrt (Ideal.div (∑ k, x k * x k) (Ideal.ofBits .f32 0x44800000#32) + Ideal.ofBits .f32 0x358637BD#32) * g z

/-- One hidden unit of the gated feed-forward layer: `silu (t · wg) * (t · wu)`. -/
def gated (t wg wu : Fin 1024 → EReal) : EReal :=
  (∑ k, t k * wg k) * Ideal.logistic (∑ k, t k * wg k) * (∑ k, t k * wu k)

/-- The gate column of hidden unit `q` in the joint weights. -/
def gateCol (q : Fin 3584) : Fin 7168 := ⟨q.val, by omega⟩
/-- The up column of hidden unit `q` in the joint weights. -/
def upCol (q : Fin 3584) : Fin 7168 := ⟨3584 + q.val, by omega⟩

/-- What hidden unit `q` of expert `e` adds to column `z` of the token `t`'s output. -/
def unitOut (W : FVec Ideal ⟨4, ![2, 8, 1024, 7168]⟩ .f32) (D : FVec Ideal ⟨4, ![2, 8, 3584, 1024]⟩ .f32) (t : Fin 1024 → EReal) (e : Fin 8)
    (z : Fin 1024) (q : Fin 3584) : EReal :=
  gated t (fun k => W (ix4 0 e k (gateCol q))) (fun k => W (ix4 0 e k (upCol q))) * D (ix4 0 e q z)

/-- Column `z` of expert `e`'s output for the token `t`. -/
def expertOut (W : FVec Ideal ⟨4, ![2, 8, 1024, 7168]⟩ .f32) (D : FVec Ideal ⟨4, ![2, 8, 3584, 1024]⟩ .f32) (t : Fin 1024 → EReal) (e : Fin 8)
    (z : Fin 1024) : EReal := ∑ q, unitOut W D t e z q

end Cert.Experts

end
-- ==== Proof.Pay.lean ====
/-
  The kernel's arithmetic at the ideal values, element by element: the normalised token and one part's share of an expert's output.
-/
module

public import proofs.«01_k».proof.Proof.Body
public import proofs.«01_k».proof.Proof.Spec
public import Idealize.ShloMosaic.Lib.Pipeline.Value
public import Idealize.ShloMosaic.Lib.Pointwise
public import Idealize.ShloMosaic.PureOps.Ideal.Laws

@[expose] public section

noncomputable section

namespace Cert.KernelIdeal.Experts

open Cert.KernelIdeal Cert.KernelIdeal.Gen Cert.Experts
open Idealize.ShloMosaic

theorem pay2_apply (x : Vec Ideal S1024x1024 .f32) (g : Vec Ideal S1x1024 .f32) (y z : Fin 1024) :
    k0_pay2 x g (ix2 y z) = rmsRow (fun k => x (ix2 y k)) (fun k => g (ix2 0 k)) z := by
  unfold k0_pay2 rmsRow
  pointwise

theorem pay3_apply (xn : Vec Ideal S1024x1024 .bf16) (wg wu : Vec Ideal S1x1x1024x512 .f32) (o : Vec Ideal S1024x1024 .f32)
    (wd : Vec Ideal S1x1x512x1024 .f32) (y z : Fin 1024) :
    k0_pay3 xn wg wu o wd (ix2 y z) = o (ix2 y z) + ∑ q : Fin 512, gated (fun k => xn (ix2 y k)) (fun k => wg (ix4 0 0 k q))
      (fun k => wu (ix4 0 0 k q)) * wd (ix4 0 0 q z) := by
  unfold k0_pay3 gated
  pointwise

theorem pay4_apply (xn : Vec Ideal S512x1024 .bf16) (wg wu : Vec Ideal S1x1x1024x512 .f32) (o : Vec Ideal S512x1024 .f32)
    (wd : Vec Ideal S1x1x512x1024 .f32) (y : Fin 512) (z : Fin 1024) :
    k0_pay4 xn wg wu o wd (ix2 y z) = o (ix2 y z) + ∑ q : Fin 512, gated (fun k => xn (ix2 y k)) (fun k => wg (ix4 0 0 k q))
      (fun k => wu (ix4 0 0 k q)) * wd (ix4 0 0 q z) := by
  unfold k0_pay4 gated
  pointwise

end Cert.KernelIdeal.Experts

end
-- ==== Proof.Value.lean ====
/-
  The result of the experts' call at the ideal values: on a row the tables route to an expert — a tile in use, a row below its
  count — it is that expert's output for the row's normalised token, every hidden unit summed once.
-/
module

public import proofs.«01_k».proof.Proof.Blocks
public import proofs.«01_k».proof.Proof.Pay

@[expose] public section

set_option maxRecDepth 16384
set_option Elab.async false

noncomputable section

namespace Cert.KernelIdeal.Experts

open Cert.KernelIdeal Cert.KernelIdeal.Gen Cert.Experts
open Idealize.ShloMosaic Idealize.ShloMosaic.TcCoe

theorem pay1_apply (y z : Fin 1024) : k0_pay1 (F := Ideal) (ix2 y z) = 0 := by
  unfold k0_pay1
  pointwise

/-! ## The first half of a tile's rows -/

theorem halfRows_apply {α : Type} (x : S1024x1024.Idx → α) (y : Fin 512) (z : Fin 1024) :
    halfRows x (ix2 y z) = x (ix2 ⟨y.val, by omega⟩ z) :=
  congrArg x (funext fun b => Fin.ext (by
    fin_cases b
    · show 0 + 1 * y.val = y.val; omega
    · show 0 + 1 * z.val = z.val; omega))

theorem put_half_apply {α : Type} (x : S1024x1024.Idx → α) (w : S512x1024.Idx → α) (y z : Fin 1024) (hy : y.val < 512) :
    VecWindow.put x ![0, 0] S512x1024.size w (ix2 y z) = w (ix2 ⟨y.val, hy⟩ z) := by
  have h : ∀ b, (![0, 0] : Fin 2 → ℕ) b ≤ ((ix2 y z : S1024x1024.Idx) b).val
      ∧ ((ix2 y z : S1024x1024.Idx) b).val < (![0, 0] : Fin 2 → ℕ) b + S512x1024.size b := by
    intro b
    fin_cases b
    · show 0 ≤ y.val ∧ y.val < 0 + 512; omega
    · show 0 ≤ z.val ∧ z.val < 0 + 1024; omega
  refine (dif_pos h).trans (congrArg w (funext fun b => Fin.ext ?_))
  fin_cases b <;> rfl

/-! ## One point -/

/-- What one part adds at row `y` and column `z`, from the staged blocks. -/
def share (x : Vec Ideal S1024x1024 .f32) (g : Vec Ideal S1x1024 .f32) (wg wu : Vec Ideal S1x1x1024x512 .f32) (wd : Vec Ideal S1x1x512x1024 .f32)
    (y z : Fin 1024) : EReal :=
  ∑ q : Fin 512, gated (rmsRow (fun k => x (ix2 y k)) (fun k => g (ix2 0 k))) (fun k => wg (ix4 0 0 k q)) (fun k => wu (ix4 0 0 k q)) * wd (ix4 0 0 q z)

theorem outStep_apply (pf : pre0.Contents (Elt Ideal)) (i : grid0.Coords) (x : Vec Ideal S1024x1024 .f32) (g : Vec Ideal S1x1024 .f32)
    (wg wu : Vec Ideal S1x1x1024x512 .f32) (wd : Vec Ideal S1x1x512x1024 .f32) (o : Vec Ideal S1024x1024 .f32) (y z : Fin 1024)
    (hu : Used pf (tile i)) (hy : Big pf (tile i) ∨ y.val < 512) :
    outStep pf i x g wg wu wd o (ix2 y z) = (if (part i).val = 0 then 0 else o (ix2 y z)) + share x g wg wu wd y z := by
  have h0 : (if (part i).val = 0 then k0_pay1 (F := Ideal) else o) (ix2 y z) = if (part i).val = 0 then 0 else o (ix2 y z) := by
    split
    · exact pay1_apply y z
    · rfl
  have hn : (fun k => k0_pay2 x g (ix2 y k)) = rmsRow (fun k => x (ix2 y k)) (fun k => g (ix2 0 k)) :=
    funext fun k => pay2_apply x g y k
  unfold outStep share
  rw [if_pos hu, ← hn, ← h0]
  by_cases hb : Big pf (tile i)
  · rw [if_pos hb]
    exact pay3_apply _ _ _ _ _ y z
  · have hy' := hy.resolve_left hb
    rw [if_neg hb, put_half_apply _ _ y z hy']
    refine (pay4_apply _ _ _ _ _ ⟨y.val, hy'⟩ z).trans ?_
    simp only [halfRows_apply]

/-! ## A tile -/

variable (a : (pcfg0 (F := Ideal)).Adm) (V : (c : Dev nD) → (b : Ref sig .tc) → Buf (Elt Ideal) ((c.tc : Thread nD τ).loc b))

/-- A part's share, from what its staged blocks hold. -/
theorem share_of_blocks (x : Vec Ideal S1024x1024 .f32) (g : Vec Ideal S1x1024 .f32) (wg wu : Vec Ideal S1x1x1024x512 .f32)
    (wd : Vec Ideal S1x1x512x1024 .f32) (W : FVec Ideal S2x8x1024x7168 .f32) (D : FVec Ideal S2x8x3584x1024 .f32) (u v : Fin 1024 → EReal)
    (e : Fin 8) (r : Fin 512 → Fin 3584) (y z : Fin 1024) (hx : ∀ k, x (ix2 y k) = u k) (hg : ∀ k, g (ix2 0 k) = v k)
    (hwg : ∀ k q, wg (ix4 0 0 k q) = W (ix4 0 e k (gateCol (r q)))) (hwu : ∀ k q, wu (ix4 0 0 k q) = W (ix4 0 e k (upCol (r q))))
    (hwd : ∀ q, wd (ix4 0 0 q z) = D (ix4 0 e (r q) z)) :
    share x g wg wu wd y z = ∑ q : Fin 512, unitOut W D (rmsRow u v) e z (r q) := by
  unfold share unitOut
  simp only [hx, hg, hwg, hwu, hwd]

/-- The normalised token of row `n`. -/
def tokenOf (c : Dev nD) (n : Fin 40960) : Fin 1024 → EReal :=
  rmsRow (fun k => (V c main_arg3 : FVec Ideal S40960x1024 .f32) (ix2 n k)) (fun k => (V c main_v0 : FVec Ideal S1x1024 .f32) (ix2 0 k))

/-- What hidden unit `q` of expert `e` adds at row `n` and column `z`. -/
def unitAt (c : Dev nD) (n : Fin 40960) (e : Fin 8) (z : Fin 1024) (q : Fin 3584) : EReal :=
  unitOut (V c main_arg5 : FVec Ideal S2x8x1024x7168 .f32) (V c main_arg6 : FVec Ideal S2x8x3584x1024 .f32) (tokenOf V c n) e z q

/-- What part `p` of a tile in use adds: the hidden units of that part, each once. -/
theorem share_apply (h : InRange a.1) (c : Dev nD) (b : Fin 40) (p : ℕ) (hp : p < 7) (hu : Used a.1 b) (y z : Fin 1024) :
    share (iblk a V c 0 (pointOf a b p hp)) (iblk a V c 1 (pointOf a b p hp)) (iblk a V c 2 (pointOf a b p hp)) (iblk a V c 3 (pointOf a b p hp))
      (iblk a V c 4 (pointOf a b p hp)) y z
      = ∑ q : Fin 512, unitAt V c (rowIx b y) ⟨(expertWord a.1 b).toNat, h b⟩ z (colIx ⟨p, hp⟩ q) := by
  have hu' : Used a.1 (tile (crd (pointOf a b p hp))) := by rw [tile_pointOf]; exact hu
  have hr : rowBlock a.1 (crd (pointOf a b p hp)) = b := (if_pos hu').trans (tile_pointOf a b p hp)
  have hc : colBlock a.1 (crd (pointOf a b p hp)) = ⟨p, hp⟩ := (if_pos hu').trans (part_pointOf a b p hp)
  have he : expertAt a h (crd (pointOf a b p hp)) = ⟨(expertWord a.1 b).toNat, h b⟩ :=
    Fin.ext (congrArg (fun i => (expertWord a.1 i).toNat) (tile_pointOf a b p hp))
  refine (share_of_blocks _ _ _ _ _ _ _ _ _ _ (fun q => colIx (colBlock a.1 (crd (pointOf a b p hp))) q) y z (tokens_apply a V c _ y)
    (scale_apply a V c _) (gate_apply a V h c _) (up_apply a V h c _) (fun q => down_apply a V h c _ q z)).trans ?_
  rw [hr, hc, he]
  rfl

/-- The output block along a tile in use: the parts so far, summed. -/
theorem traj_apply (h : InRange a.1) (c : Dev nD) (b : Fin 40) (hu : Used a.1 b) (y z : Fin 1024) (hy : Big a.1 b ∨ y.val < 512)
    (f : Fin 3584 → EReal) (hf : f = unitAt V c (rowIx b y) ⟨(expertWord a.1 b).toNat, h b⟩ z) :
    ∀ (p : ℕ) (hp : p < 7), traj a V c (pointOf a b p hp).val (Fin.isLt _) (ix2 y z)
      = ∑ k : Fin (p + 1), ∑ q : Fin 512, f (colIx ⟨k.val, by omega⟩ q) := by
  have step : ∀ (p : ℕ) (hp : p < 7), traj a V c (pointOf a b p hp).val (Fin.isLt _) (ix2 y z)
      = (if p = 0 then 0 else prev a V c (pointOf a b p hp) (ix2 y z)) + ∑ q : Fin 512, f (colIx ⟨p, hp⟩ q) := by
    intro p hp
    rw [traj_eq a V c (pointOf a b p hp)]
    refine (outStep_apply a.1 (crd (pointOf a b p hp)) _ _ _ _ _ _ y z (by rw [tile_pointOf]; exact hu) (by rw [tile_pointOf]; exact hy)).trans ?_
    rw [share_apply a V h c b p hp hu, part_pointOf, ← hf]
  intro p
  induction p with
  | zero =>
    intro hp
    rw [step 0 hp, if_pos rfl, zero_add, Fin.sum_univ_one]
    rfl
  | succ p ih =>
    intro hp
    refine ((step (p + 1) hp).trans ?_).trans (Fin.sum_univ_castSucc _).symm
    rw [if_neg (Nat.succ_ne_zero p)]
    refine congrArg₂ (· + ·) (Eq.trans ?_ (ih (by omega))) rfl
    unfold prev
    exact congrFun (dif_neg (Nat.succ_ne_zero (b.val * 7 + p))) _

/-- The hidden units, part by part, are all of them. -/
theorem sum_parts (f : Fin 3584 → EReal) : ∑ k : Fin 7, ∑ q : Fin 512, f (colIx k q) = ∑ q, f q := by
  refine (Fintype.sum_prod_type' (fun k q => f (colIx k q))).symm.trans (Fintype.sum_equiv (finProdFinEquiv (m := 7) (n := 512)) _ _ ?_)
  rintro ⟨k, q⟩
  refine congrArg f (Fin.ext ?_)
  show k.val * 512 + q.val = q.val + 512 * k.val
  omega

/-- The result on a routed row. -/
theorem result_apply (h : InRange a.1) (c : Dev nD) (b : Fin 40) (hu : Used a.1 b) (y z : Fin 1024) (hy : (y.val : ℤ) < (validWord a.1 b).toInt) :
    (dats a V c).arrAt (5 : Fin 6) (cfg0 a).N (ix2 (rowIx b y) z : S40960x1024.Idx)
      = expertOut (V c main_arg5 : FVec Ideal S2x8x1024x7168 .f32) (V c main_arg6 : FVec Ideal S2x8x3584x1024 .f32) (tokenOf V c (rowIx b y))
          ⟨(expertWord a.1 b).toNat, h b⟩ z := by
  have hy' : Big a.1 b ∨ y.val < 512 := by unfold Big; omega
  exact (result_row a V c b y z).trans ((traj_apply a V h c b hu y z hy' _ rfl 6 (by decide)).trans (sum_parts _))

end Cert.KernelIdeal.Experts

end
-- ==== Proof.Ref.lean ====
/-
  The reference's result, element by element: the sum over the experts of the one-hot choice times the expert's output for the
  normalised token, which is the chosen expert's output alone.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import Idealize.ShloMosaic.Lib.Pointwise
public import Idealize.ShloMosaic.Lib.WordCmp

@[expose] public section

noncomputable section

namespace Cert.ReferenceIdeal.Experts

open Cert.ReferenceIdeal Cert.ReferenceIdeal.Gen Cert.ReferenceIdeal.Read Cert.Experts
open Idealize.ShloMosaic

variable (x0 : IVec S40 32) (x3 : FVec Ideal S40960x1024 .f32) (x4 : FVec Ideal S1024 .f32) (x5 : FVec Ideal S2x8x1024x7168 .f32)
  (x6 : FVec Ideal S2x8x3584x1024 .f32)

/-- Row `n` of the normalised tokens. -/
def token (n : Fin 40960) (k : Fin 1024) : EReal := val_main_v12 (F := Ideal) x3 x4 (ix2 n k)

theorem token_eq (n : Fin 40960) : token x3 x4 n = rmsRow (fun k => x3 (ix2 n k)) (fun k => x4 (ix1 k)) := by
  funext z
  unfold token rmsRow
  pointwise [val_main_v12, val_main_v9, val_main_v8, val_main_v7, val_main_v6, val_main_v5, val_main_v4, val_main_v3, val_main_v2, val_main_v1,
    val_main_v0, val_main_cst, val_main_cst_0, val_main_cst_1, val_main_v10, val_main_v11]

/-- The gated feed-forward layer as the reference prints it, for any weights. -/
def layer (t : FVec Ideal S40960x1024 .f32) (W : FVec Ideal S1024x7168 .f32) (D : FVec Ideal S3584x1024 .f32) : FVec Ideal S40960x1024 .f32 :=
  let h : FVec Ideal S40960x7168 .f32 := Host.dotGeneral dot_S40960x1024_S1024x7168_S40960x7168_1_0_0_1_n_n none t W
  let a : FVec Ideal S40960x3584 .f32 := extractStridedSlice S40960x3584 ![0, 0] h slices_S40960x7168_S40960x3584_0_0
  let u : FVec Ideal S40960x3584 .f32 := extractStridedSlice S40960x3584 ![0, 3584] h slices_S40960x7168_S40960x3584_0_3584
  let one : FVec Ideal S40960x3584 .f32 := broadcastInDim S40960x3584 ![] bcast_S_S40960x3584 (constant S_ .f32 0x3F800000#32)
  Host.dotGeneral dot_S40960x3584_S3584x1024_S40960x1024_1_0_0_1_n_n none (mulf (mulf a (Host.divf one (addf one (Host.exp (Host.negf a))))) u) D

theorem layer_apply (t : FVec Ideal S40960x1024 .f32) (W : FVec Ideal S1024x7168 .f32) (D : FVec Ideal S3584x1024 .f32) (n : Fin 40960) (z : Fin 1024) :
    layer t W D (ix2 n z) = ∑ q : Fin 3584, gated (fun k => t (ix2 n k)) (fun k => W (ix2 k (gateCol q))) (fun k => W (ix2 k (upCol q))) * D (ix2 q z) := by
  unfold gated Ideal.logistic gateCol upCol
  pointwise [layer]

/-- One expert's term of the reference's sum. -/
theorem term_apply (t : FVec Ideal S40960x1024 .f32) (e : Fin 8) (ch : FVec Ideal S40960x1 .f32) (W : FVec Ideal S1024x7168 .f32)
    (D : FVec Ideal S3584x1024 .f32) (hc : ∀ n, ch (ix2 n 0) = val_main_v15 (F := Ideal) x0 (ix2 n e))
    (hW : ∀ k q, W (ix2 k q) = x5 (ix4 0 e k q)) (hD : ∀ q z, D (ix2 q z) = x6 (ix4 0 e q z)) (n : Fin 40960) (z : Fin 1024) :
    mulf (broadcastInDim S40960x1024 ![0, 1] bcast_S40960x1_S40960x1024_0_1 ch) (layer t W D) (ix2 n z)
      = val_main_v15 (F := Ideal) x0 (ix2 n e) * expertOut x5 x6 (fun k => t (ix2 n k)) e z := by
  have h1 : broadcastInDim S40960x1024 ![0, 1] bcast_S40960x1_S40960x1024_0_1 ch (ix2 n z) = ch (ix2 n 0) := by pointwise
  refine (congrArg₂ (fun a b : EReal => a * b) (h1.trans (hc n)) (layer_apply t W D n z)).trans ?_
  unfold expertOut unitOut
  simp only [hW, hD]

theorem term0_apply (n : Fin 40960) (z : Fin 1024) : val_main_v29 (F := Ideal) x0 x3 x4 x5 x6 (ix2 n z)
    = val_main_v15 (F := Ideal) x0 (ix2 n 0) * expertOut x5 x6 (token x3 x4 n) 0 z := by
  refine (term_apply x0 x5 x6 (val_main_v12 (F := Ideal) x3 x4) 0 (val_main_v17 (F := Ideal) x0) (val_main_v19 (F := Ideal) x5) (val_main_v21 (F := Ideal) x6)
    (fun n => ?_) (fun k q => ?_) (fun q z => ?_) n z).trans (by unfold token; rfl)
  · pointwise [val_main_v17]
  · pointwise [val_main_v19, val_main_v18]
  · pointwise [val_main_v21, val_main_v20]

theorem term1_apply (n : Fin 40960) (z : Fin 1024) : val_main_v43 (F := Ideal) x0 x3 x4 x5 x6 (ix2 n z)
    = val_main_v15 (F := Ideal) x0 (ix2 n 1) * expertOut x5 x6 (token x3 x4 n) 1 z := by
  refine (term_apply x0 x5 x6 (val_main_v12 (F := Ideal) x3 x4) 1 (val_main_v31 (F := Ideal) x0) (val_main_v33 (F := Ideal) x5) (val_main_v35 (F := Ideal) x6)
    (fun n => ?_) (fun k q => ?_) (fun q z => ?_) n z).trans (by unfold token; rfl)
  · pointwise [val_main_v31]
  · pointwise [val_main_v33, val_main_v32]
  · pointwise [val_main_v35, val_main_v34]

theorem term2_apply (n : Fin 40960) (z : Fin 1024) : val_main_v57 (F := Ideal) x0 x3 x4 x5 x6 (ix2 n z)
    = val_main_v15 (F := Ideal) x0 (ix2 n 2) * expertOut x5 x6 (token x3 x4 n) 2 z := by
  refine (term_apply x0 x5 x6 (val_main_v12 (F := Ideal) x3 x4) 2 (val_main_v45 (F := Ideal) x0) (val_main_v47 (F := Ideal) x5) (val_main_v49 (F := Ideal) x6)
    (fun n => ?_) (fun k q => ?_) (fun q z => ?_) n z).trans (by unfold token; rfl)
  · pointwise [val_main_v45]
  · pointwise [val_main_v47, val_main_v46]
  · pointwise [val_main_v49, val_main_v48]

theorem term3_apply (n : Fin 40960) (z : Fin 1024) : val_main_v71 (F := Ideal) x0 x3 x4 x5 x6 (ix2 n z)
    = val_main_v15 (F := Ideal) x0 (ix2 n 3) * expertOut x5 x6 (token x3 x4 n) 3 z := by
  refine (term_apply x0 x5 x6 (val_main_v12 (F := Ideal) x3 x4) 3 (val_main_v59 (F := Ideal) x0) (val_main_v61 (F := Ideal) x5) (val_main_v63 (F := Ideal) x6)
    (fun n => ?_) (fun k q => ?_) (fun q z => ?_) n z).trans (by unfold token; rfl)
  · pointwise [val_main_v59]
  · pointwise [val_main_v61, val_main_v60]
  · pointwise [val_main_v63, val_main_v62]

theorem term4_apply (n : Fin 40960) (z : Fin 1024) : val_main_v85 (F := Ideal) x0 x3 x4 x5 x6 (ix2 n z)
    = val_main_v15 (F := Ideal) x0 (ix2 n 4) * expertOut x5 x6 (token x3 x4 n) 4 z := by
  refine (term_apply x0 x5 x6 (val_main_v12 (F := Ideal) x3 x4) 4 (val_main_v73 (F := Ideal) x0) (val_main_v75 (F := Ideal) x5) (val_main_v77 (F := Ideal) x6)
    (fun n => ?_) (fun k q => ?_) (fun q z => ?_) n z).trans (by unfold token; rfl)
  · pointwise [val_main_v73]
  · pointwise [val_main_v75, val_main_v74]
  · pointwise [val_main_v77, val_main_v76]

theorem term5_apply (n : Fin 40960) (z : Fin 1024) : val_main_v99 (F := Ideal) x0 x3 x4 x5 x6 (ix2 n z)
    = val_main_v15 (F := Ideal) x0 (ix2 n 5) * expertOut x5 x6 (token x3 x4 n) 5 z := by
  refine (term_apply x0 x5 x6 (val_main_v12 (F := Ideal) x3 x4) 5 (val_main_v87 (F := Ideal) x0) (val_main_v89 (F := Ideal) x5) (val_main_v91 (F := Ideal) x6)
    (fun n => ?_) (fun k q => ?_) (fun q z => ?_) n z).trans (by unfold token; rfl)
  · pointwise [val_main_v87]
  · pointwise [val_main_v89, val_main_v88]
  · pointwise [val_main_v91, val_main_v90]

theorem term6_apply (n : Fin 40960) (z : Fin 1024) : val_main_v113 (F := Ideal) x0 x3 x4 x5 x6 (ix2 n z)
    = val_main_v15 (F := Ideal) x0 (ix2 n 6) * expertOut x5 x6 (token x3 x4 n) 6 z := by
  refine (term_apply x0 x5 x6 (val_main_v12 (F := Ideal) x3 x4) 6 (val_main_v101 (F := Ideal) x0) (val_main_v103 (F := Ideal) x5) (val_main_v105 (F := Ideal) x6)
    (fun n => ?_) (fun k q => ?_) (fun q z => ?_) n z).trans (by unfold token; rfl)
  · pointwise [val_main_v101]
  · pointwise [val_main_v103, val_main_v102]
  · pointwise [val_main_v105, val_main_v104]

theorem term7_apply (n : Fin 40960) (z : Fin 1024) : val_main_v127 (F := Ideal) x0 x3 x4 x5 x6 (ix2 n z)
    = val_main_v15 (F := Ideal) x0 (ix2 n 7) * expertOut x5 x6 (token x3 x4 n) 7 z := by
  refine (term_apply x0 x5 x6 (val_main_v12 (F := Ideal) x3 x4) 7 (val_main_v115 (F := Ideal) x0) (val_main_v117 (F := Ideal) x5) (val_main_v119 (F := Ideal) x6)
    (fun n => ?_) (fun k q => ?_) (fun q z => ?_) n z).trans (by unfold token; rfl)
  · pointwise [val_main_v115]
  · pointwise [val_main_v117, val_main_v116]
  · pointwise [val_main_v119, val_main_v118]

/-- The one-hot row of a token: one at its tile's expert. -/
theorem chosen_apply (n : Fin 40960) (e : Fin 8) :
    val_main_v15 (F := Ideal) x0 (ix2 n e) = if (x0 (ix1 ⟨n.val / 1024, by omega⟩)).toNat = e.val then 1 else 0 := by
  pointwise [val_main_v15, val_main_call0_v4, val_main_call0_v3, val_main_call0_v2, val_main_call0_v1, val_main_call0_v0, val_main_v14, val_main_v13]
  rw [WordCmp.cmpi_eq_eq]
  have e8 : (BitVec.ofNat 32 e.val).toNat = e.val := by rw [BitVec.toNat_ofNat]; omega
  by_cases h : x0 (ix1 ⟨n.val / 1024, by omega⟩) = BitVec.ofNat 32 e.val
  · rw [if_pos (by rw [h, e8]), decide_eq_true h]
    exact congrArg (fun r : ℝ => (r : EReal)) Nat.cast_one
  · rw [if_neg (fun hh => h (BitVec.eq_of_toNat_eq (hh.trans e8.symm))), decide_eq_false h]
    exact congrArg (fun r : ℝ => (r : EReal)) Nat.cast_zero

/-- The reference's element: the output of the expert its token's tile is assigned to. -/
theorem result_apply (n : Fin 40960) (z : Fin 1024) (e : Fin 8) (he : (x0 (ix1 ⟨n.val / 1024, by omega⟩)).toNat = e.val) :
    val_main_v128 (F := Ideal) x0 x3 x4 x5 x6 (ix2 n z) = expertOut x5 x6 (rmsRow (fun k => x3 (ix2 n k)) (fun k => x4 (ix1 k))) e z := by
  have h16 : val_main_v16 (F := Ideal) (ix2 n z) = 0 := by pointwise [val_main_v16, val_main_cst_2]
  have hs : val_main_v128 (F := Ideal) x0 x3 x4 x5 x6 (ix2 n z)
      = ∑ e : Fin 8, val_main_v15 (F := Ideal) x0 (ix2 n e) * expertOut x5 x6 (token x3 x4 n) e z := by
    rw [Fin.sum_univ_eight, ← term0_apply, ← term1_apply, ← term2_apply, ← term3_apply, ← term4_apply, ← term5_apply, ← term6_apply, ← term7_apply]
    refine Eq.trans (b := (0 : EReal) + _ + _ + _ + _ + _ + _ + _ + _) (by rw [← h16]; rfl) (by rw [zero_add])
  rw [hs, Finset.sum_eq_single e, chosen_apply, if_pos he, one_mul, token_eq]
  · intro b _ hb
    rw [chosen_apply, if_neg (fun h => hb (Fin.ext (h.symm.trans he))), zero_mul]
  · intro h; exact absurd (Finset.mem_univ e) h

end Cert.ReferenceIdeal.Experts

end
-- ==== Proof.Algebraic.lean ====
/-
  The kernel and the reference compute one function over the extended reals, on the rows that hold a token: on such a row both leave
  the output of the row's expert for the row's normalised token.
-/
module

public import proofs.«01_k».proof.Defs
public import proofs.«01_k».proof.Proof.Value
public import proofs.«01_k».proof.Proof.Mask
public import proofs.«01_k».proof.Proof.Ref
public import proofs.«01_k».proof.Proof.Gen.ReferenceIdeal.Run

@[expose] public section

noncomputable section

namespace Cert.KernelIdeal.Experts

open Cert.KernelIdeal Cert.KernelIdeal.Gen Cert.Experts
open Idealize.ShloMosaic Idealize.ShloMosaic.TcCoe

variable (m : (ℓ : Loc nD τ sig) → Buf (Elt Ideal) ℓ)

/-- The scale at the region is the argument, its elements in one row. -/
theorem entry_scale (c : Dev nD) (k : Fin 1024) :
    (entry m c main_v0 : FVec Ideal S1x1024 .f32) (ix2 0 k) = (m ((c.tc : Thread nD τ).loc main_arg4) : FVec Ideal S1024 .f32) (ix1 k) := by
  have e : entry m c main_v0 = shapeCast S1x1024 (m ((c.tc : Thread nD τ).loc main_arg4) : FVec Ideal S1024 .f32) shapeCasts_S1024_S1x1024 := by
    unfold entry
    simp only [StableHlo.after_cons, StableHlo.after_nil]
    exact StableHlo.reshape_result ..
  rw [e]
  pointwise

/-- The kernel's result on a row of the mask is the reference's. -/
theorem result_eq (hr : InRange (tables m)) (c : Dev nD) (n : Fin 40960) (z : Fin 1024)
    (h : Cert.On_routed_rows.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (ix2 n z) = 1#1) :
    (dats (adm m hr) (entry m) c).arrAt (5 : Fin 6) (cfg0 (adm m hr)).N (ix2 n z : S40960x1024.Idx)
      = Cert.ReferenceIdeal.Read.val_main_v128 (F := Ideal) (m ((c.tc : Thread nD τ).loc main_arg0)) (m ((c.tc : Thread nD τ).loc main_arg3))
          (m ((c.tc : Thread nD τ).loc main_arg4)) (m ((c.tc : Thread nD τ).loc main_arg5)) (m ((c.tc : Thread nD τ).loc main_arg6)) (ix2 n z) := by
  obtain rfl : c = 0 := Subsingleton.elim _ _
  obtain ⟨hu, hv⟩ := routed n z h
  have hn : n = rowIx (tileOf n) ⟨n.val % 1024, Nat.mod_lt _ (by decide)⟩ :=
    Fin.ext (by show n.val = n.val / 1024 * 1024 + n.val % 1024; omega)
  have ht : tokenOf (entry m) 0 n = rmsRow (fun k => (m (((0 : Dev nD).tc : Thread nD τ).loc main_arg3) : FVec Ideal S40960x1024 .f32) (ix2 n k))
      (fun k => (m (((0 : Dev nD).tc : Thread nD τ).loc main_arg4) : FVec Ideal S1024 .f32) (ix1 k)) := by
    unfold tokenOf
    rw [entry_eq m 0 main_arg3 (by decide)]
    exact congrArg (rmsRow _) (funext fun k => entry_scale m 0 k)
  refine Eq.trans ?_ (Cert.ReferenceIdeal.Experts.result_apply _ _ _ _ _ n z ⟨(expertWord (tables m) (tileOf n)).toNat, hr (tileOf n)⟩ rfl).symm
  rw [← ht]
  refine (congrArg (fun k : Fin 40960 => (dats (adm m hr) (entry m) 0).arrAt (5 : Fin 6) (cfg0 (adm m hr)).N (ix2 k z : S40960x1024.Idx)) hn).trans ?_
  refine (result_apply (adm m hr) (entry m) hr 0 (tileOf n) hu ⟨n.val % 1024, Nat.mod_lt _ (by decide)⟩ z hv).trans ?_
  rw [← hn, entry_eq m 0 main_arg5 (by decide), entry_eq m 0 main_arg6 (by decide)]
  rfl

end Cert.KernelIdeal.Experts

namespace Cert.Experts

open Idealize.ShloMosaic Idealize.ShloMosaic.TcCoe Idealize.SL.Sem

/-- Equal arguments give equal results of the reference. -/
theorem val_congr {x0 y0 x3 y3 x4 y4 x5 y5 x6 y6} (h0 : x0 = y0) (h3 : x3 = y3) (h4 : x4 = y4) (h5 : x5 = y5) (h6 : x6 = y6) (i) :
    Cert.ReferenceIdeal.Read.val_main_v128 (F := Ideal) x0 x3 x4 x5 x6 i = Cert.ReferenceIdeal.Read.val_main_v128 (F := Ideal) y0 y3 y4 y5 y6 i := by
  subst h0 h3 h4 h5 h6; rfl

theorem algebraic : Cert.algebraic_KernelIdeal_ReferenceIdeal_on_routed_rows := fun m ρ m' ρ' hpre hag => by
  have hr : Cert.KernelIdeal.Experts.InRange (Cert.KernelIdeal.Experts.tables m) := fun i => experts_lt (hpre 0) i
  refine ⟨fun c => Cert.ReferenceIdeal.Read.val_main_v128 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run _ _ _).mono (fun r h c => ⟨fun i hi => ?_, (h.1 c).1⟩) (Cert.KernelIdeal.Experts.frame m ρ hr)
    rw [eq_ix2 i] at hi ⊢
    exact (congrFun (h.1 c).2 _).trans (Cert.KernelIdeal.Experts.result_eq m hr c _ _ hi)
  · refine (θ_run _ _ _).mono (fun r h c => ⟨fun i _ => ?_, (h c).2⟩) (Cert.ReferenceIdeal.Value.run m' ρ')
    refine (congrFun ((h c).1.trans (Cert.ReferenceIdeal.Read.val_main_v128_eq (StableHlo.launchContents m' c))) i).trans ?_
    obtain ⟨h0, -, -, h3, h4, h5, h6⟩ := hag c
    exact val_congr h0 h3 h4 h5 h6 i

end Cert.Experts

end
-- ==== Proof.DenseValue.lean ====
/-
  The dense feed-forward call at the ideal values, element by element: each element of its result is the token's own plus the gated
  feed-forward layer of the normalised token, the hidden units summed in the two stretches the kernel takes them in, which is the
  sum over all of them.
-/
module

public import proofs.«01_k».proof.Proof.Gen.DenseIdeal.Value
public import proofs.«01_k».proof.Proof.Spec
public import Idealize.ShloMosaic.Lib.Pipeline.Value
public import Idealize.ShloMosaic.Lib.Pointwise
public import Idealize.ShloMosaic.PureOps.Ideal.Laws

@[expose] public section

set_option maxRecDepth 16384

noncomputable section

namespace Cert.Dense.Layer

open Idealize.ShloMosaic Cert.Experts

/-- What hidden unit `q` adds to column `z` of a token's output. -/
def unitOut (t : Fin 1024 → EReal) (W : Fin 1024 → Fin 5632 → EReal) (D : Fin 2816 → Fin 1024 → EReal) (z : Fin 1024) (q : Fin 2816) : EReal :=
  gated t (fun k => W k ⟨q.val, by omega⟩) (fun k => W k ⟨2816 + q.val, by omega⟩) * D q z

/-- Column `z` of the layer's result for the token `x`: the token plus the feed-forward layer of the token normalised. -/
def out (x g : Fin 1024 → EReal) (W : Fin 1024 → Fin 5632 → EReal) (D : Fin 2816 → Fin 1024 → EReal) (z : Fin 1024) : EReal :=
  x z + ∑ q, unitOut (rmsRow x g) W D z q

/-- A sum over the hidden units, in the kernel's two stretches. -/
theorem sum_split (f : Fin 2816 → EReal) :
    ∑ q, f q = (∑ q : Fin 1536, f ⟨q.val, by omega⟩) + ∑ q : Fin 1280, f ⟨1536 + q.val, by omega⟩ :=
  Fin.sum_univ_add (a := 1536) (b := 1280) f

end Cert.Dense.Layer

namespace Cert.DenseIdeal.Layer

open Cert.DenseIdeal Cert.DenseIdeal.Gen Cert.Experts Cert.Dense.Layer
open Idealize.ShloMosaic Idealize.ShloMosaic.TcCoe
open Idealize.ShloMosaic.Pipeline (Dat Cfg Window)

/-! ## One block -/

theorem normed_apply (x : Vec Ideal S512x1024 .f32) (g : Vec Ideal S1x1024 .f32) (y : Fin 512) (z : Fin 1024) :
    k0_pay2 x g (ix2 y z) = rmsRow (fun k => x (ix2 y k)) (fun k => g (ix2 0 k)) z := by
  unfold k0_pay2 rmsRow
  pointwise

theorem first_apply (x : Vec Ideal S512x1024 .f32) (g : Vec Ideal S1x1024 .f32) (wg wu : Vec Ideal S1024x1536 .bf16) (wd : Vec Ideal S1536x1024 .bf16)
    (y : Fin 512) (z : Fin 1024) :
    k0_pay3 x g wg wu wd (ix2 y z) = x (ix2 y z) + ∑ q : Fin 1536, gated (rmsRow (fun k => x (ix2 y k)) (fun k => g (ix2 0 k)))
      (fun k => wg (ix2 k q)) (fun k => wu (ix2 k q)) * wd (ix2 q z) := by
  have hn : rmsRow (fun k => x (ix2 y k)) (fun k => g (ix2 0 k)) = fun k => k0_pay2 x g (ix2 y k) :=
    funext fun k => (normed_apply x g y k).symm
  rw [hn]
  unfold k0_pay3 gated
  generalize k0_pay2 x g = t
  pointwise

theorem second_apply (o : Vec Ideal S512x1024 .f32) (x : Vec Ideal S512x1024 .f32) (g : Vec Ideal S1x1024 .f32) (wg wu : Vec Ideal S1024x1280 .bf16)
    (wd : Vec Ideal S1280x1024 .bf16) (y : Fin 512) (z : Fin 1024) :
    k0_pay1 o (k0_pay4 x g wg) (k0_pay5 x g wu) (k0_pay6 x g wg) wd (ix2 y z)
      = o (ix2 y z) + ∑ q : Fin 1280, gated (rmsRow (fun k => x (ix2 y k)) (fun k => g (ix2 0 k)))
        (fun k => wg (ix2 k q)) (fun k => wu (ix2 k q)) * wd (ix2 q z) := by
  have hn : rmsRow (fun k => x (ix2 y k)) (fun k => g (ix2 0 k)) = fun k => k0_pay2 x g (ix2 y k) :=
    funext fun k => (normed_apply x g y k).symm
  rw [hn]
  unfold k0_pay1 k0_pay6 k0_pay5 k0_pay4 gated
  generalize k0_pay2 x g = t
  pointwise

theorem zero_pair : (![0, 0] : Fin 2 → ℕ) = fun _ => 0 := by funext b; fin_cases b <;> rfl

/-- A load of a rectangle reads the array at the rectangle's corner plus the index. -/
theorem ld_apply {e : EltTy} {a b a' b' : ℕ} (p q : ℕ) (X : (⟨2, ![a, b]⟩ : Shape).Idx → Elt Ideal e)
    (inb : ∀ d, (![p, q] : Fin 2 → ℕ) d + (![a', b'] : Fin 2 → ℕ) d ≤ (![a, b] : Fin 2 → ℕ) d) (i : Fin a') (j : Fin b') (hi : p + i.val < a) (hj : q + j.val < b) :
    View.ld X (Rect.unit (s := ⟨2, ![a, b]⟩) ![p, q] ![a', b'] inb) (ix2 i j) = X (ix2 ⟨p + i.val, hi⟩ ⟨q + j.val, hj⟩) :=
  congrArg X (funext fun d => Fin.ext (by
    fin_cases d
    · show p + 1 * i.val = p + i.val; omega
    · show q + 1 * j.val = q + j.val; omega))

theorem block_apply (x : Vec Ideal S512x1024 .f32) (g : Vec Ideal S1x1024 .f32) (W : Vec Ideal S1024x5632 .bf16) (D : Vec Ideal S2816x1024 .bf16)
    (u : Vec Ideal S1x1024 .f32) (y : Fin 512) (z : Fin 1024) :
    out0_5 x g W D u (ix2 y z) = out (fun k => x (ix2 y k)) (fun k => g (ix2 0 k)) (fun k q => W (ix2 k q)) (fun q z => D (ix2 q z)) z := by
  unfold out0_5 out
  rw [View.canon_unit_zero zero_pair, View.ld_unit_zero zero_pair, View.ld_unit_zero zero_pair, second_apply, first_apply, sum_split, add_assoc]
  refine congrArg (x (ix2 y z) + ·) (congrArg₂ (· + ·) (Finset.sum_congr rfl fun q _ => ?_) (Finset.sum_congr rfl fun q _ => ?_))
  · unfold Cert.Dense.Layer.unitOut
    refine congrArg₂ (· * ·) (congrArg₂ (gated _) (funext fun k => ?_) (funext fun k => ?_)) ?_
    · refine (ld_apply 0 0 W _ k q (by omega) (by omega)).trans (congrArg W (congrArg₂ ix2 (Fin.ext ?_) (Fin.ext ?_))) <;> simp
    · refine (ld_apply 0 2816 W _ k q (by omega) (by omega)).trans (congrArg W (congrArg₂ ix2 (Fin.ext ?_) (Fin.ext ?_))) <;> simp
    · refine (ld_apply 0 0 D _ q z (by omega) (by omega)).trans (congrArg D (congrArg₂ ix2 (Fin.ext ?_) (Fin.ext ?_))) <;> simp
  · unfold Cert.Dense.Layer.unitOut
    refine congrArg₂ (· * ·) (congrArg₂ (gated _) (funext fun k => ?_) (funext fun k => ?_)) ?_
    · refine (ld_apply 0 1536 W _ k q (by omega) (by omega)).trans (congrArg W (congrArg₂ ix2 (Fin.ext ?_) (Fin.ext ?_))) <;> simp
    · refine (ld_apply 0 4352 W _ k q (by omega) (by omega)).trans (congrArg W (congrArg₂ ix2 (Fin.ext ?_) (Fin.ext ?_))) <;> simp <;> omega
    · refine (ld_apply 1536 0 D _ q z (by omega) (by omega)).trans (congrArg D (congrArg₂ ix2 (Fin.ext ?_) (Fin.ext ?_))) <;> simp

/-! ## The blocks the pipeline stages -/

variable (m : (ℓ : Loc nD τ sig) → Buf (Elt Ideal) ℓ)

theorem tokens_apply (c : Dev nD) (t : Fin cfg0.N) (n : Fin 16384) (y : Fin 512) (hn : n.val = t.val * 512 + y.val) (z : Fin 1024) :
    (iblk m c 0 t : Vec Ideal S512x1024 .f32) (ix2 y z) = (m ((c.tc : Thread nD τ).loc main_arg0) : FVec Ideal S16384x1024 .f32) (ix2 n z) := by
  refine Eq.trans ?_ (congrFun (V_main_arg0 m c) (ix2 n z))
  refine congrArg (V m c main_arg0) (funext fun b => Fin.ext ?_)
  refine (Window.rect_emb_val (cfg0.win (0 : Fin 6)) t (ix2 y z) b).trans ?_
  have e : (cfg0.win (0 : Fin 6)).index t = ![t.val, 0] := (by decide +kernel : ∀ t : Fin grid0.N, win0_0.index t = ![t.val, 0]) t
  rw [e]
  fin_cases b
  · exact hn.symm
  · exact Nat.zero_add _

theorem scale_apply (c : Dev nD) (t : Fin cfg0.N) (k : Fin 1024) :
    (iblk m c 1 t : Vec Ideal S1x1024 .f32) (ix2 0 k) = (m ((c.tc : Thread nD τ).loc main_arg1) : FVec Ideal S1024 .f32) (ix1 k) := by
  have e : V m c main_v0 = shapeCast S1x1024 (m ((c.tc : Thread nD τ).loc main_arg1) : FVec Ideal S1024 .f32) shapeCasts_S1024_S1x1024 := by
    dsimp only [V, hostOps0]
    after_results_simp
    rfl
  refine Eq.trans (congrArg (V m c main_v0) (funext fun b => Fin.ext ?_)) ((congrFun e (ix2 0 k)).trans (by pointwise))
  refine (Window.rect_emb_val (cfg0.win (1 : Fin 6)) t (ix2 0 k) b).trans ?_
  fin_cases b
  · rfl
  · exact Nat.zero_add _

theorem gateUp_apply (c : Dev nD) (t : Fin cfg0.N) (k : Fin 1024) (q : Fin 5632) :
    (iblk m c 2 t : Vec Ideal S1024x5632 .bf16) (ix2 k q) = (m ((c.tc : Thread nD τ).loc main_arg2) : FVec Ideal S1024x5632 .f32) (ix2 k q) := by
  have e : V m c main_v1 = (truncf .bf16 (m ((c.tc : Thread nD τ).loc main_arg2) : FVec Ideal S1024x5632 .f32) bitsLt_bf16_f32 : FVec Ideal S1024x5632 .bf16) := by
    dsimp only [V, hostOps0]
    after_results_simp
  refine Eq.trans (congrArg (V m c main_v1) (funext fun b => Fin.ext ?_)) ((congrFun e (ix2 k q)).trans (by pointwise))
  refine (Window.rect_emb_val (cfg0.win (2 : Fin 6)) t (ix2 k q) b).trans ?_
  fin_cases b <;> exact Nat.zero_add _

theorem down_apply (c : Dev nD) (t : Fin cfg0.N) (q : Fin 2816) (z : Fin 1024) :
    (iblk m c 3 t : Vec Ideal S2816x1024 .bf16) (ix2 q z) = (m ((c.tc : Thread nD τ).loc main_arg3) : FVec Ideal S2816x1024 .f32) (ix2 q z) := by
  have e : V m c main_v2 = (truncf .bf16 (m ((c.tc : Thread nD τ).loc main_arg3) : FVec Ideal S2816x1024 .f32) bitsLt_bf16_f32 : FVec Ideal S2816x1024 .bf16) := by
    dsimp only [V, hostOps0]
    after_results_simp
  refine Eq.trans (congrArg (V m c main_v2) (funext fun b => Fin.ext ?_)) ((congrFun e (ix2 q z)).trans (by pointwise))
  refine (Window.rect_emb_val (cfg0.win (3 : Fin 6)) t (ix2 q z) b).trans ?_
  fin_cases b <;> exact Nat.zero_add _

/-! ## The result -/

/-- The element of the result at row `n`. -/
theorem result_apply (c : Dev nD) (n : Fin 16384) (z : Fin 1024) :
    (dats m 0 c).arrAt (5 : Fin 6) cfg0.N (ix2 n z : S16384x1024.Idx)
      = out (fun k => (m ((c.tc : Thread nD τ).loc main_arg0) : FVec Ideal S16384x1024 .f32) (ix2 n k))
          (fun k => (m ((c.tc : Thread nD τ).loc main_arg1) : FVec Ideal S1024 .f32) (ix1 k))
          (fun k q => (m ((c.tc : Thread nD τ).loc main_arg2) : FVec Ideal S1024x5632 .f32) (ix2 k q))
          (fun q z => (m ((c.tc : Thread nD τ).loc main_arg3) : FVec Ideal S2816x1024 .f32) (ix2 q z)) z := by
  have hN : grid0.N = 32 := by decide
  obtain ⟨t, ht⟩ : ∃ t : Fin cfg0.N, t.val = n.val / 512 := ⟨⟨n.val / 512, by show _ < grid0.N; omega⟩, rfl⟩
  have hn : n.val = t.val * 512 + n.val % 512 := by omega
  have hf : (cfg0.win (5 : Fin 6)).flush t = true := (by decide +kernel : ∀ t : Fin grid0.N, win0_5.flush t = true) t
  have he : ((cfg0.win (5 : Fin 6)).blk t).view.emb (ix2 ⟨n.val % 512, Nat.mod_lt _ (by decide)⟩ z : S512x1024.Idx) = (ix2 n z : S16384x1024.Idx) := by
    refine funext fun b => Fin.ext ?_
    refine (Window.rect_emb_val (cfg0.win (5 : Fin 6)) t (ix2 ⟨n.val % 512, Nat.mod_lt _ (by decide)⟩ z) b).trans ?_
    have e : (cfg0.win (5 : Fin 6)).index t = ![t.val, 0] := (by decide +kernel : ∀ t : Fin grid0.N, win0_5.index t = ![t.val, 0]) t
    rw [e]
    fin_cases b
    · exact hn.symm
    · exact Nat.zero_add _
  have hb := congrFun ((Cert.DenseIdeal.Value.blocks5 m c t hf).trans (Cert.DenseIdeal.Value.flushed5 m c t))
    (ix2 ⟨n.val % 512, Nat.mod_lt _ (by decide)⟩ z : S512x1024.Idx)
  refine Eq.trans (congrArg ((dats m 0 c).arrAt (5 : Fin 6) cfg0.N) he.symm) (hb.trans ?_)
  refine (block_apply _ _ _ _ _ _ z).trans ?_
  rw [funext fun k => tokens_apply m c t n ⟨n.val % 512, Nat.mod_lt _ (by decide)⟩ hn k, funext fun k => scale_apply m c t k,
    funext fun k => funext fun q => gateUp_apply m c t k q, funext fun q => funext fun z => down_apply m c t q z]

end Cert.DenseIdeal.Layer

end
-- ==== Proof.DenseRef.lean ====
/-
  The dense feed-forward reference, element by element.
-/
module

public import proofs.«01_k».proof.Proof.Gen.DenseReferenceIdeal.Read
public import proofs.«01_k».proof.Proof.Spec
public import Idealize.ShloMosaic.Lib.Pointwise

@[expose] public section

noncomputable section

namespace Cert.DenseReferenceIdeal.Layer

open Cert.DenseReferenceIdeal Cert.DenseReferenceIdeal.Gen Cert.DenseReferenceIdeal.Read Cert.Experts
open Idealize.ShloMosaic

theorem token_apply (h : FVec Ideal S16384x1024 .f32) (g : FVec Ideal S1024 .f32) (n : Fin 16384) (z : Fin 1024) :
    val_main_v12 (F := Ideal) h g (ix2 n z) = rmsRow (fun k => h (ix2 n k)) (fun k => g (ix1 k)) z := by
  unfold rmsRow
  pointwise [val_main_v12, val_main_v9, val_main_v8, val_main_v7, val_main_v6, val_main_v5, val_main_v4, val_main_v3, val_main_v2, val_main_v1,
    val_main_v0, val_main_cst, val_main_cst_0, val_main_cst_1, val_main_v10, val_main_v11]

theorem result_apply (h : FVec Ideal S16384x1024 .f32) (g : FVec Ideal S1024 .f32) (W : FVec Ideal S1024x5632 .f32) (D : FVec Ideal S2816x1024 .f32)
    (n : Fin 16384) (z : Fin 1024) :
    val_main_v19 (F := Ideal) h g W D (ix2 n z) = h (ix2 n z) + ∑ q : Fin 2816, gated (rmsRow (fun k => h (ix2 n k)) (fun k => g (ix1 k)))
      (fun k => W (ix2 k ⟨q.val, by omega⟩)) (fun k => W (ix2 k ⟨2816 + q.val, by omega⟩)) * D (ix2 q z) := by
  have hn : rmsRow (fun k => h (ix2 n k)) (fun k => g (ix1 k)) = fun k => val_main_v12 (F := Ideal) h g (ix2 n k) :=
    funext fun k => (token_apply h g n k).symm
  rw [hn]
  unfold gated Ideal.logistic val_main_v19 val_main_v18 val_main_v17 val_main_v16 val_main_call0_v5 val_main_call0_v4 val_main_call0_cst_0 val_main_call0_v3
    val_main_call0_v2 val_main_call0_cst val_main_call0_v1 val_main_call0_v0 val_main_v15 val_main_v14 val_main_v13
  generalize val_main_v12 (F := Ideal) h g = t
  pointwise

end Cert.DenseReferenceIdeal.Layer

end
-- ==== Proof.DenseClaims.lean ====
/-
  What is claimed of the dense feed-forward call: the kernel, its reading at the ideal values and the reference run, and the last two
  compute one function over the extended reals.
-/
module

public import proofs.«01_k».proof.Defs
public import proofs.«01_k».proof.Proof.DenseValue
public import proofs.«01_k».proof.Proof.DenseRef
public import proofs.«01_k».proof.Proof.Gen.Dense.Frame
public import proofs.«01_k».proof.Proof.Gen.DenseReferenceIdeal.Run

@[expose] public section

noncomputable section

namespace Cert.Dense.Layer

open Idealize.ShloMosaic Idealize.ShloMosaic.TcCoe Idealize.SL.Sem

theorem runs_kernel : Cert.quiescent_Dense := fun m ρ _ => Cert.Dense.Gen.frame m ρ

theorem runs_ideal : Cert.quiescent_DenseIdeal := fun m ρ _ => Cert.DenseIdeal.Gen.frame m ρ

theorem runs_reference : Cert.quiescent_DenseReferenceIdeal := fun m ρ _ =>
  (θ_run _ _ _).mono (fun r h => ⟨fun c => (h c).2, sem_eq_zero_of_no_sems (by decide) r.2⟩)
    (Cert.DenseReferenceIdeal.Value.run (F := Ideal) m ρ)

/-- Equal arguments give equal results of the reference. -/
theorem val_congr {x0 y0 x1 y1 x2 y2 x3 y3} (h0 : x0 = y0) (h1 : x1 = y1) (h2 : x2 = y2) (h3 : x3 = y3) :
    Cert.DenseReferenceIdeal.Read.val_main_v19 (F := Ideal) x0 x1 x2 x3 = Cert.DenseReferenceIdeal.Read.val_main_v19 (F := Ideal) y0 y1 y2 y3 := by
  subst h0 h1 h2 h3; rfl

theorem algebraic : Cert.algebraic_DenseIdeal_DenseReferenceIdeal := fun m ρ m' ρ' _ hag => by
  refine ⟨fun c => Cert.DenseReferenceIdeal.Read.val_main_v19 (F := Ideal)
      (m ((c.tc : Thread Cert.DenseIdeal.nD Cert.DenseIdeal.τ).loc Cert.DenseIdeal.main_arg0)) (m ((c.tc : Thread Cert.DenseIdeal.nD Cert.DenseIdeal.τ).loc Cert.DenseIdeal.main_arg1))
      (m ((c.tc : Thread Cert.DenseIdeal.nD Cert.DenseIdeal.τ).loc Cert.DenseIdeal.main_arg2)) (m ((c.tc : Thread Cert.DenseIdeal.nD Cert.DenseIdeal.τ).loc Cert.DenseIdeal.main_arg3)), ?_, ?_⟩
  · refine (θ_run _ _ _).mono (fun r h c => ⟨(h c).1.trans (funext fun i => ?_), (h c).2⟩) (Cert.DenseIdeal.Value.run_blocks m ρ)
    rw [eq_ix2 i]
    exact (Cert.DenseIdeal.Layer.result_apply m c _ _).trans (Cert.DenseReferenceIdeal.Layer.result_apply _ _ _ _ _ _).symm
  · refine (θ_run _ _ _).mono (fun r h c => ⟨?_, (h c).2⟩) (Cert.DenseReferenceIdeal.Value.run m' ρ')
    refine ((h c).1.trans (Cert.DenseReferenceIdeal.Read.val_main_v19_eq _ _ _ _)).trans ?_
    obtain ⟨h0, h1, h2, h3, -⟩ := hag c
    exact val_congr h0 h1 h2 h3

end Cert.Dense.Layer

end
-- ==== Proof.GmlpInValue.lean ====
/-
  The first half of the gMLP mixer at the ideal values, element by element: a branch of the mixer is gelu of the normalised token's
  product with its half of the columns of the weights; the second branch goes through a layer norm.
-/
module

public import proofs.«01_k».proof.Proof.Gen.GmlpInIdeal.Value
public import proofs.«01_k».proof.Proof.DenseValue

@[expose] public section

set_option maxRecDepth 16384

noncomputable section

namespace Cert.GmlpIn.Layer

open Idealize.ShloMosaic Cert.Experts

/-- gelu, by the tanh formula. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- gelu with its two constants multiplied out: the formula the kernel follows. -/
def geluFolded (x : EReal) : EReal :=
  Ideal.ofBits .f32 0x3F000000#32 * x * (Ideal.ofBits .f32 0x3F800000#32
    + Ideal.tanh (x * (Ideal.ofBits .f32 0x3F4C422A#32 + ((80338380498831 / 2251799813685248 : ℝ) : EReal) * (x * x))))

theorem ofBits_root : Ideal.ofBits .f32 0x3F4C422A#32 = ((6693141 / 8388608 : ℝ) : EReal) := by
  simp [Ideal.ofBits, Ideal.ieee, -EReal.coe_mul]; norm_num

theorem ofBits_cubic : Ideal.ofBits .f32 0x3D372713#32 = ((12003091 / 268435456 : ℝ) : EReal) := by
  simp [Ideal.ofBits, Ideal.ieee, -EReal.coe_mul]; norm_num

/-- A polynomial with positive coefficients, of degree one and three, in its two forms. -/
theorem cubic_factored {r c : ℝ} (hr : 0 < r) (hc : 0 < c) (x : EReal) :
    x * ((r : EReal) + ((r * c : ℝ) : EReal) * (x * x)) = (r : EReal) * (x + (c : EReal) * (x * x * x)) := by
  have hrc : 0 < r * c := mul_pos hr hc
  induction x with
  | coe x => norm_cast; ring
  | top => simp [EReal.coe_mul_top_of_pos, hr, hc, hrc, -EReal.coe_mul]
  | bot => simp [EReal.coe_mul_top_of_pos, EReal.coe_mul_bot_of_pos, hr, hc, hrc, -EReal.coe_mul]

theorem geluFolded_eq (x : EReal) : geluFolded x = gelu x := by
  have h := cubic_factored (r := 6693141 / 8388608) (c := 12003091 / 268435456) (by norm_num) (by norm_num) x
  rw [show ((6693141 / 8388608) * (12003091 / 268435456) : ℝ) = 80338380498831 / 2251799813685248 by norm_num] at h
  unfold geluFolded gelu
  rw [ofBits_root, ofBits_cubic, h, mul_comm (Ideal.ofBits .f32 0x3F000000#32) x, mul_assoc]

/-- Element `q` of a branch: gelu of the token's product with column `q`. -/
def branch (t : Fin 1024 → EReal) (W : Fin 1024 → Fin 2048 → EReal) (q : Fin 2048) : EReal :=
  gelu (∑ k, t k * W k q)

/-- A row less its mean. -/
def centred (v : Fin 2048 → EReal) (q : Fin 2048) : EReal :=
  v q - Ideal.div (∑ k, v k) (Ideal.ofBits .f32 0x45000000#32)

/-- A row through the layer norm. -/
def layerNorm (v a b : Fin 2048 → EReal) (q : Fin 2048) : EReal :=
  centred v q * Ideal.rsqrt (Ideal.div (∑ k, centred v k * centred v k) (Ideal.ofBits .f32 0x45000000#32) + Ideal.ofBits .f32 0x358637BD#32) * a q + b q

/-- The first branch of a token: the first half of the columns. -/
def firstOut (x g : Fin 1024 → EReal) (W : Fin 1024 → Fin 4096 → EReal) (q : Fin 2048) : EReal :=
  branch (rmsRow x g) (fun k q => W k ⟨q.val, by omega⟩) q

/-- The second branch of a token: the second half of the columns, through the layer norm. -/
def secondOut (x g : Fin 1024 → EReal) (W : Fin 1024 → Fin 4096 → EReal) (a b : Fin 2048 → EReal) (q : Fin 2048) : EReal :=
  layerNorm (branch (rmsRow x g) (fun k q => W k ⟨2048 + q.val, by omega⟩)) a b q

end Cert.GmlpIn.Layer

namespace Cert.GmlpInIdeal.Layer

open Cert.GmlpInIdeal Cert.GmlpInIdeal.Gen Cert.Experts Cert.GmlpIn.Layer
open Cert.DenseIdeal.Layer (zero_pair ld_apply)
open Idealize.ShloMosaic Idealize.ShloMosaic.TcCoe
open Idealize.ShloMosaic.Pipeline (Dat Cfg Window)

/-! ## One block -/

theorem normed_apply (x : Vec Ideal S512x1024 .f32) (g : Vec Ideal S1x1024 .f32) (y : Fin 512) (z : Fin 1024) :
    k0_pay3 x g (ix2 y z) = rmsRow (fun k => x (ix2 y k)) (fun k => g (ix2 0 k)) z := by
  unfold k0_pay3 rmsRow
  pointwise

/-- The kernel's product of gelu's two constants. -/
theorem folded_eq : Named.named (F := Ideal) κ "folded" (φ := .f32) 0x3D122279#32 = ((80338380498831 / 2251799813685248 : ℝ) : EReal) :=
  IdealRules.named_const.ideal_named_scalar _ _ _ _ rfl

theorem first_apply (t : FVec Ideal S512x1024 .bf16) (w : Vec Ideal S1024x2048 .bf16) (y : Fin 512) (q : Fin 2048) :
    k0_pay2 t w (ix2 y q) = branch (fun k => t (ix2 y k)) (fun k q => w (ix2 k q)) q := by
  unfold branch
  rw [← geluFolded_eq]
  unfold geluFolded k0_pay2
  rw [folded_eq]
  pointwise

theorem centred_apply (x : Vec Ideal S512x1024 .f32) (g : Vec Ideal S1x1024 .f32) (w : Vec Ideal S1024x2048 .bf16) (y : Fin 512) (q : Fin 2048) :
    k0_pay4 x g w (ix2 y q) = centred (branch (fun k => k0_pay3 x g (ix2 y k)) (fun k q => w (ix2 k q))) q := by
  have hb : branch (fun k => k0_pay3 x g (ix2 y k)) (fun k q => w (ix2 k q)) = fun q => geluFolded (∑ k, k0_pay3 x g (ix2 y k) * w (ix2 k q)) :=
    funext fun q => (geluFolded_eq _).symm
  rw [hb]
  unfold centred geluFolded k0_pay4
  rw [folded_eq]
  generalize k0_pay3 x g = t
  pointwise

theorem second_apply (x : Vec Ideal S512x1024 .f32) (g : Vec Ideal S1x1024 .f32) (w : Vec Ideal S1024x2048 .bf16) (a b : Vec Ideal S1x2048 .f32)
    (y : Fin 512) (q : Fin 2048) :
    k0_pay1 (k0_pay4 x g w) (k0_pay5 x g w) (k0_pay6 (F := Ideal)) a b (ix2 y q)
      = layerNorm (branch (fun k => k0_pay3 x g (ix2 y k)) (fun k q => w (ix2 k q))) (fun q => a (ix2 0 q)) (fun q => b (ix2 0 q)) q := by
  unfold layerNorm
  rw [funext fun q => (centred_apply x g w y q).symm]
  unfold k0_pay1 k0_pay5 k0_pay6
  generalize k0_pay4 x g w = t
  pointwise

/-- The block of the first branch. -/
theorem firstBlock_apply (x : Vec Ideal S512x1024 .f32) (g : Vec Ideal S1x1024 .f32) (W : Vec Ideal S1024x4096 .bf16) (a b : Vec Ideal S1x2048 .f32)
    (y : Fin 512) (q : Fin 2048) :
    out0_5 x g W a b (ix2 y q) = firstOut (fun k => x (ix2 y k)) (fun k => g (ix2 0 k)) (fun k q => W (ix2 k q)) q := by
  unfold out0_5 firstOut
  rw [View.canon_unit_zero zero_pair, View.ld_unit_zero zero_pair, View.ld_unit_zero zero_pair, first_apply, funext fun k => normed_apply x g y k]
  refine congrArg (fun w => branch _ w q) (funext fun k => funext fun q => ?_)
  refine (ld_apply 0 0 W _ k q (by omega) (by omega)).trans (congrArg W (congrArg₂ ix2 (Fin.ext ?_) (Fin.ext ?_))) <;> simp

/-- The block of the second branch. -/
theorem secondBlock_apply (x : Vec Ideal S512x1024 .f32) (g : Vec Ideal S1x1024 .f32) (W : Vec Ideal S1024x4096 .bf16) (a b : Vec Ideal S1x2048 .f32)
    (y : Fin 512) (q : Fin 2048) :
    out0_6 x g W a b (ix2 y q) = secondOut (fun k => x (ix2 y k)) (fun k => g (ix2 0 k)) (fun k q => W (ix2 k q)) (fun q => a (ix2 0 q)) (fun q => b (ix2 0 q)) q := by
  unfold out0_6 secondOut
  rw [View.canon_unit_zero zero_pair, View.ld_unit_zero zero_pair, View.ld_unit_zero zero_pair, View.ld_unit_zero zero_pair, View.ld_unit_zero zero_pair,
    second_apply, funext fun k => normed_apply x g y k]
  refine congrArg (fun w => layerNorm (branch _ w) _ _ q) (funext fun k => funext fun q => ?_)
  refine (ld_apply 0 2048 W _ k q (by omega) (by omega)).trans (congrArg W (congrArg₂ ix2 (Fin.ext ?_) (Fin.ext ?_))) <;> simp

/-! ## The blocks the pipeline stages -/

variable (m : (ℓ : Loc nD τ sig) → Buf (Elt Ideal) ℓ)

theorem tokens_apply (c : Dev nD) (t : Fin cfg0.N) (n : Fin 16384) (y : Fin 512) (hn : n.val = t.val * 512 + y.val) (z : Fin 1024) :
    (iblk m c 0 t : Vec Ideal S512x1024 .f32) (ix2 y z) = (m ((c.tc : Thread nD τ).loc main_arg0) : FVec Ideal S16384x1024 .f32) (ix2 n z) := by
  refine Eq.trans ?_ (congrFun (V_main_arg0 m c) (ix2 n z))
  refine congrArg (V m c main_arg0) (funext fun b => Fin.ext ?_)
  refine (Window.rect_emb_val (cfg0.win (0 : Fin 7)) t (ix2 y z) b).trans ?_
  have e : (cfg0.win (0 : Fin 7)).index t = ![t.val, 0] := (by decide +kernel : ∀ t : Fin grid0.N, win0_0.index t = ![t.val, 0]) t
  rw [e]
  fin_cases b
  · exact hn.symm
  · exact Nat.zero_add _

theorem scale_apply (c : Dev nD) (t : Fin cfg0.N) (k : Fin 1024) :
    (iblk m c 1 t : Vec Ideal S1x1024 .f32) (ix2 0 k) = (m ((c.tc : Thread nD τ).loc main_arg1) : FVec Ideal S1024 .f32) (ix1 k) := by
  have e : V m c main_v0 = shapeCast S1x1024 (m ((c.tc : Thread nD τ).loc main_arg1) : FVec Ideal S1024 .f32) shapeCasts_S1024_S1x1024 := by
    dsimp only [V, hostOps0]
    after_results_simp
    rfl
  refine Eq.trans (congrArg (V m c main_v0) (funext fun b => Fin.ext ?_)) ((congrFun e (ix2 0 k)).trans (by pointwise))
  refine (Window.rect_emb_val (cfg0.win (1 : Fin 7)) t (ix2 0 k) b).trans ?_
  fin_cases b
  · rfl
  · exact Nat.zero_add _

theorem normScale_apply (c : Dev nD) (t : Fin cfg0.N) (k : Fin 2048) :
    (iblk m c 3 t : Vec Ideal S1x2048 .f32) (ix2 0 k) = (m ((c.tc : Thread nD τ).loc main_arg3) : FVec Ideal S2048 .f32) (ix1 k) := by
  have e : V m c main_v2 = shapeCast S1x2048 (m ((c.tc : Thread nD τ).loc main_arg3) : FVec Ideal S2048 .f32) shapeCasts_S2048_S1x2048 := by
    dsimp only [V, hostOps0]
    after_results_simp
    rfl
  refine Eq.trans (congrArg (V m c main_v2) (funext fun b => Fin.ext ?_)) ((congrFun e (ix2 0 k)).trans (by pointwise))
  refine (Window.rect_emb_val (cfg0.win (3 : Fin 7)) t (ix2 0 k) b).trans ?_
  fin_cases b
  · rfl
  · exact Nat.zero_add _

theorem normShift_apply (c : Dev nD) (t : Fin cfg0.N) (k : Fin 2048) :
    (iblk m c 4 t : Vec Ideal S1x2048 .f32) (ix2 0 k) = (m ((c.tc : Thread nD τ).loc main_arg4) : FVec Ideal S2048 .f32) (ix1 k) := by
  have e : V m c main_v3 = shapeCast S1x2048 (m ((c.tc : Thread nD τ).loc main_arg4) : FVec Ideal S2048 .f32) shapeCasts_S2048_S1x2048 := by
    dsimp only [V, hostOps0]
    after_results_simp
    rfl
  refine Eq.trans (congrArg (V m c main_v3) (funext fun b => Fin.ext ?_)) ((congrFun e (ix2 0 k)).trans (by pointwise))
  refine (Window.rect_emb_val (cfg0.win (4 : Fin 7)) t (ix2 0 k) b).trans ?_
  fin_cases b
  · rfl
  · exact Nat.zero_add _

theorem weights_apply (c : Dev nD) (t : Fin cfg0.N) (k : Fin 1024) (q : Fin 4096) :
    (iblk m c 2 t : Vec Ideal S1024x4096 .bf16) (ix2 k q) = (m ((c.tc : Thread nD τ).loc main_arg2) : FVec Ideal S1024x4096 .f32) (ix2 k q) := by
  have e : V m c main_v1 = (truncf .bf16 (m ((c.tc : Thread nD τ).loc main_arg2) : FVec Ideal S1024x4096 .f32) bitsLt_bf16_f32 : FVec Ideal S1024x4096 .bf16) := by
    dsimp only [V, hostOps0]
    after_results_simp
  refine Eq.trans (congrArg (V m c main_v1) (funext fun b => Fin.ext ?_)) ((congrFun e (ix2 k q)).trans (by pointwise))
  refine (Window.rect_emb_val (cfg0.win (2 : Fin 7)) t (ix2 k q) b).trans ?_
  fin_cases b <;> exact Nat.zero_add _

/-! ## The results -/

/-- The point that holds row `n`, and the row within its block. -/
theorem row_split (n : Fin 16384) : ∃ (t : Fin cfg0.N) (y : Fin 512), n.val = t.val * 512 + y.val := by
  have hN : grid0.N = 32 := by decide
  refine ⟨⟨n.val / 512, by show _ < grid0.N; omega⟩, ⟨n.val % 512, Nat.mod_lt _ (by decide)⟩, ?_⟩
  show n.val = n.val / 512 * 512 + n.val % 512
  omega

theorem first_result_apply (c : Dev nD) (n : Fin 16384) (z : Fin 2048) :
    (dats m 0 c).arrAt (5 : Fin 7) cfg0.N (ix2 n z : S16384x2048.Idx) = firstOut (fun k => (m ((c.tc : Thread nD τ).loc main_arg0) : FVec Ideal S16384x1024 .f32) (ix2 n k))
          (fun k => (m ((c.tc : Thread nD τ).loc main_arg1) : FVec Ideal S1024 .f32) (ix1 k))
          (fun k q => (m ((c.tc : Thread nD τ).loc main_arg2) : FVec Ideal S1024x4096 .f32) (ix2 k q)) z := by
  obtain ⟨t, y, hn⟩ := row_split n
  have hf : (cfg0.win (5 : Fin 7)).flush t = true := (by decide +kernel : ∀ t : Fin grid0.N, win0_5.flush t = true) t
  have he : ((cfg0.win (5 : Fin 7)).blk t).view.emb (ix2 y z : S512x2048.Idx) = (ix2 n z : S16384x2048.Idx) := by
    refine funext fun b => Fin.ext ?_
    refine (Window.rect_emb_val (cfg0.win (5 : Fin 7)) t (ix2 y z) b).trans ?_
    have e : (cfg0.win (5 : Fin 7)).index t = ![t.val, 0] := (by decide +kernel : ∀ t : Fin grid0.N, win0_5.index t = ![t.val, 0]) t
    rw [e]
    fin_cases b
    · exact hn.symm
    · exact Nat.zero_add _
  have hb := congrFun ((Cert.GmlpInIdeal.Value.blocks5 m c t hf).trans (Cert.GmlpInIdeal.Value.flushed5 m c t)) (ix2 y z : S512x2048.Idx)
  refine Eq.trans (congrArg ((dats m 0 c).arrAt (5 : Fin 7) cfg0.N) he.symm) (hb.trans ?_)
  refine (firstBlock_apply _ _ _ _ _ y z).trans ?_
  rw [funext fun k => tokens_apply m c t n y hn k, funext fun k => scale_apply m c t k,
    funext fun k => funext fun q => weights_apply m c t k q]

theorem second_result_apply (c : Dev nD) (n : Fin 16384) (z : Fin 2048) :
    (dats m 0 c).arrAt (6 : Fin 7) cfg0.N (ix2 n z : S16384x2048.Idx) = secondOut (fun k => (m ((c.tc : Thread nD τ).loc main_arg0) : FVec Ideal S16384x1024 .f32) (ix2 n k))
          (fun k => (m ((c.tc : Thread nD τ).loc main_arg1) : FVec Ideal S1024 .f32) (ix1 k))
          (fun k q => (m ((c.tc : Thread nD τ).loc main_arg2) : FVec Ideal S1024x4096 .f32) (ix2 k q))
          (fun q => (m ((c.tc : Thread nD τ).loc main_arg3) : FVec Ideal S2048 .f32) (ix1 q))
          (fun q => (m ((c.tc : Thread nD τ).loc main_arg4) : FVec Ideal S2048 .f32) (ix1 q)) z := by
  obtain ⟨t, y, hn⟩ := row_split n
  have hf : (cfg0.win (6 : Fin 7)).flush t = true := (by decide +kernel : ∀ t : Fin grid0.N, win0_6.flush t = true) t
  have he : ((cfg0.win (6 : Fin 7)).blk t).view.emb (ix2 y z : S512x2048.Idx) = (ix2 n z : S16384x2048.Idx) := by
    refine funext fun b => Fin.ext ?_
    refine (Window.rect_emb_val (cfg0.win (6 : Fin 7)) t (ix2 y z) b).trans ?_
    have e : (cfg0.win (6 : Fin 7)).index t = ![t.val, 0] := (by decide +kernel : ∀ t : Fin grid0.N, win0_6.index t = ![t.val, 0]) t
    rw [e]
    fin_cases b
    · exact hn.symm
    · exact Nat.zero_add _
  have hb := congrFun ((Cert.GmlpInIdeal.Value.blocks6 m c t hf).trans (Cert.GmlpInIdeal.Value.flushed6 m c t)) (ix2 y z : S512x2048.Idx)
  refine Eq.trans (congrArg ((dats m 0 c).arrAt (6 : Fin 7) cfg0.N) he.symm) (hb.trans ?_)
  refine (secondBlock_apply _ _ _ _ _ y z).trans ?_
  rw [funext fun k => tokens_apply m c t n y hn k, funext fun k => scale_apply m c t k,
    funext fun k => funext fun q => weights_apply m c t k q,
    funext fun q => normScale_apply m c t q, funext fun q => normShift_apply m c t q]

end Cert.GmlpInIdeal.Layer

end
-- ==== Proof.GmlpInRef.lean ====
/-
  The reference of the first half of the gMLP mixer, element by element.
-/
module

public import proofs.«01_k».proof.Proof.Gen.GmlpInReferenceIdeal.Read
public import proofs.«01_k».proof.Proof.GmlpInValue

@[expose] public section

noncomputable section

namespace Cert.GmlpInReferenceIdeal.Layer

open Cert.GmlpInReferenceIdeal Cert.GmlpInReferenceIdeal.Gen Cert.GmlpInReferenceIdeal.Read Cert.Experts Cert.GmlpIn.Layer
open Idealize.ShloMosaic

variable (h : FVec Ideal S16384x1024 .f32) (g : FVec Ideal S1024 .f32) (W : FVec Ideal S1024x4096 .f32) (a b : FVec Ideal S2048 .f32)

theorem token_apply (n : Fin 16384) (z : Fin 1024) :
    val_main_v12 (F := Ideal) h g (ix2 n z) = rmsRow (fun k => h (ix2 n k)) (fun k => g (ix1 k)) z := by
  unfold rmsRow
  pointwise [val_main_v12, val_main_v9, val_main_v8, val_main_v7, val_main_v6, val_main_v5, val_main_v4, val_main_v3, val_main_v2, val_main_v1,
    val_main_v0, val_main_cst, val_main_cst_0, val_main_cst_1, val_main_v10, val_main_v11]

/-- gelu of the token's product with column `q` of the weights. -/
theorem gelu_apply (n : Fin 16384) (q : Fin 4096) :
    val_main_v26 (F := Ideal) h g W (ix2 n q) = gelu (∑ k, rmsRow (fun k => h (ix2 n k)) (fun k => g (ix1 k)) k * W (ix2 k q)) := by
  have hd : ∑ k, rmsRow (fun k => h (ix2 n k)) (fun k => g (ix1 k)) k * W (ix2 k q) = val_main_v13 (F := Ideal) h g W (ix2 n q) := by
    rw [funext fun k => (token_apply h g n k).symm]
    unfold val_main_v13
    generalize val_main_v12 (F := Ideal) h g = t
    pointwise
  rw [hd]
  unfold gelu val_main_v26 val_main_v25 val_main_v24 val_main_v23 val_main_v22 val_main_v21 val_main_v20 val_main_v19 val_main_v18 val_main_v17
    val_main_v16 val_main_v15 val_main_v14 val_main_cst_2 val_main_cst_3 val_main_cst_4 val_main_cst_5
  generalize val_main_v13 (F := Ideal) h g W = t
  pointwise

theorem first_result (n : Fin 16384) (q : Fin 2048) :
    val_main_v29 (F := Ideal) h g W (ix2 n q) = firstOut (fun k => h (ix2 n k)) (fun k => g (ix1 k)) (fun k q => W (ix2 k q)) q := by
  refine Eq.trans ?_ (gelu_apply h g W n ⟨q.val, by omega⟩)
  unfold val_main_v29 val_main_v27
  generalize val_main_v26 (F := Ideal) h g W = t
  pointwise

theorem second_row (n : Fin 16384) (q : Fin 2048) :
    val_main_v28 (F := Ideal) h g W (ix2 n q) = branch (rmsRow (fun k => h (ix2 n k)) (fun k => g (ix1 k))) (fun k q => W (ix2 k ⟨2048 + q.val, by omega⟩)) q := by
  refine Eq.trans ?_ (gelu_apply h g W n ⟨2048 + q.val, by omega⟩)
  unfold val_main_v28
  generalize val_main_v26 (F := Ideal) h g W = t
  pointwise

theorem centred_apply (n : Fin 16384) (q : Fin 2048) :
    val_main_v35 (F := Ideal) h g W (ix2 n q) = centred (fun q => val_main_v28 (F := Ideal) h g W (ix2 n q)) q := by
  unfold centred val_main_v35 val_main_v34 val_main_v33 val_main_v32 val_main_v31 val_main_v30 val_main_cst_6 val_main_cst_7
  generalize val_main_v28 (F := Ideal) h g W = t
  pointwise

theorem second_result (n : Fin 16384) (q : Fin 2048) :
    val_main_v52 (F := Ideal) h g W a b (ix2 n q) = secondOut (fun k => h (ix2 n k)) (fun k => g (ix1 k)) (fun k q => W (ix2 k q))
      (fun q => a (ix1 q)) (fun q => b (ix1 q)) q := by
  unfold secondOut layerNorm
  rw [funext fun q => (second_row h g W n q).symm, funext fun q => (centred_apply h g W n q).symm]
  unfold val_main_v52 val_main_v51 val_main_v50 val_main_v49 val_main_v48 val_main_v47 val_main_v46 val_main_v45 val_main_v44 val_main_v43 val_main_v42
    val_main_v41 val_main_v40 val_main_v39 val_main_v38 val_main_v37 val_main_v36 val_main_cst_8 val_main_cst_9 val_main_cst_10
  generalize val_main_v35 (F := Ideal) h g W = t
  pointwise

end Cert.GmlpInReferenceIdeal.Layer

end
-- ==== Proof.GmlpInClaims.lean ====
/-
  What is claimed of the first half of the gMLP mixer: the kernel, its reading at the ideal values and the reference run, the kernel's
  named constant is the value it is read as, and the last two programs compute the same two functions over the extended reals.
-/
module

public import proofs.«01_k».proof.Defs
public import proofs.«01_k».proof.Proof.GmlpInValue
public import proofs.«01_k».proof.Proof.GmlpInRef
public import proofs.«01_k».proof.Proof.Gen.GmlpIn.Frame
public import proofs.«01_k».proof.Proof.Gen.GmlpInReferenceIdeal.Run

@[expose] public section

noncomputable section

namespace Cert.GmlpIn.Layer

open Idealize.ShloMosaic Idealize.ShloMosaic.TcCoe Idealize.SL.Sem

theorem runs_kernel : Cert.quiescent_GmlpIn := fun m ρ _ => Cert.GmlpIn.Gen.frame m ρ

theorem runs_ideal : Cert.quiescent_GmlpInIdeal := fun m ρ _ => Cert.GmlpInIdeal.Gen.frame m ρ

theorem runs_reference : Cert.quiescent_GmlpInReferenceIdeal := fun m ρ _ =>
  (θ_run _ _ _).mono (fun r h => ⟨fun c => (h c).2.2, sem_eq_zero_of_no_sems (by decide) r.2⟩)
    (Cert.GmlpInReferenceIdeal.Value.run (F := Ideal) m ρ)

/-- The folded constant is read as the product of gelu's two. -/
theorem preserves : Cert.preserves_GmlpIn_GmlpInIdeal :=
  IdealRules.named_const.statement Cert.GmlpInIdeal.κ "folded" .f32 0x3D122279#32 ((80338380498831 / 2251799813685248 : ℝ) : EReal) rfl

/-- Equal arguments give equal first results of the reference. -/
theorem first_congr {x0 y0 x1 y1 x2 y2} (h0 : x0 = y0) (h1 : x1 = y1) (h2 : x2 = y2) :
    Cert.GmlpInReferenceIdeal.Read.val_main_v29 (F := Ideal) x0 x1 x2 = Cert.GmlpInReferenceIdeal.Read.val_main_v29 (F := Ideal) y0 y1 y2 := by
  subst h0 h1 h2; rfl

/-- Equal arguments give equal second results of the reference. -/
theorem second_congr {x0 y0 x1 y1 x2 y2 x3 y3 x4 y4} (h0 : x0 = y0) (h1 : x1 = y1) (h2 : x2 = y2) (h3 : x3 = y3) (h4 : x4 = y4) :
    Cert.GmlpInReferenceIdeal.Read.val_main_v52 (F := Ideal) x0 x1 x2 x3 x4 = Cert.GmlpInReferenceIdeal.Read.val_main_v52 (F := Ideal) y0 y1 y2 y3 y4 := by
  subst h0 h1 h2 h3 h4; rfl

theorem algebraic : Cert.algebraic_GmlpInIdeal_GmlpInReferenceIdeal := fun m ρ m' ρ' _ hag => by
  refine ⟨fun c => Cert.GmlpInReferenceIdeal.Read.val_main_v29 (F := Ideal)
      (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1))
      (m ((c.tc : Thread Cert.GmlpInIdeal.nD Cert.GmlpInIdeal.τ).loc Cert.GmlpInIdeal.main_arg2)),
    fun c => Cert.GmlpInReferenceIdeal.Read.val_main_v52 (F := Ideal)
      (m ((c.tc : Thread Cert.GmlpInIdeal.nD Cert.GmlpInIdeal.τ).loc Cert.GmlpInIdeal.main_arg0)) (m ((c.tc : Thread Cert.GmlpInIdeal.nD Cert.GmlpInIdeal.τ).loc Cert.GmlpInIdeal.main_arg1))
      (m ((c.tc : Thread Cert.GmlpInIdeal.nD Cert.GmlpInIdeal.τ).loc Cert.GmlpInIdeal.main_arg2)) (m ((c.tc : Thread Cert.GmlpInIdeal.nD Cert.GmlpInIdeal.τ).loc Cert.GmlpInIdeal.main_arg3))
      (m ((c.tc : Thread Cert.GmlpInIdeal.nD Cert.GmlpInIdeal.τ).loc Cert.GmlpInIdeal.main_arg4)), ?_, ?_⟩
  · refine (θ_run _ _ _).mono (fun r h c => ⟨(h c).1.trans (funext fun i => ?_), (h c).2.1.trans (funext fun i => ?_), (h c).2.2⟩)
      (Cert.GmlpInIdeal.Value.run_blocks m ρ)
    · rw [eq_ix2 i]
      exact (Cert.GmlpInIdeal.Layer.first_result_apply m c _ _).trans (Cert.GmlpInReferenceIdeal.Layer.first_result _ _ _ _ _).symm
    · rw [eq_ix2 i]
      exact (Cert.GmlpInIdeal.Layer.second_result_apply m c _ _).trans (Cert.GmlpInReferenceIdeal.Layer.second_result _ _ _ _ _ _ _).symm
  · refine (θ_run _ _ _).mono (fun r h c => ⟨?_, ?_, (h c).2.2⟩) (Cert.GmlpInReferenceIdeal.Value.run m' ρ')
    · refine ((h c).1.trans (Cert.GmlpInReferenceIdeal.Read.val_main_v29_eq _ _)).trans ?_
      obtain ⟨h0, h1, h2, -⟩ := hag c
      exact first_congr h0 h1 h2
    · refine ((h c).2.1.trans (Cert.GmlpInReferenceIdeal.Read.val_main_v52_eq _ _)).trans ?_
      obtain ⟨h0, h1, h2, h3, h4⟩ := hag c
      exact second_congr h0 h1 h2 h3 h4

end Cert.GmlpIn.Layer

end
-- ==== Proof.GmlpOutTiles.lean ====
/-
  The second half of the gMLP mixer at the ideal values, element by element. A block of the kernel holds four chunks of 128
  positions; it mixes and gates them tile by tile, one tile for each chunk and group of columns, into a buffer of the block's shape,
  and then takes the buffer's product with the weights. The 32 tiles are pieces of one array, `mixed`.
-/
module

public import proofs.«01_k».proof.Proof.Gen.GmlpOutIdeal.Value
public import proofs.«01_k».proof.Proof.DenseValue
public import Idealize.ShloMosaic.Lib.WholeRead

@[expose] public section

set_option maxRecDepth 16384

noncomputable section

namespace Cert.GmlpOutIdeal.Layer

open Cert.GmlpOutIdeal Cert.GmlpOutIdeal.Gen Cert.Experts
open Cert.DenseIdeal.Layer (zero_pair)
open Idealize.ShloMosaic Idealize.ShloMosaic.TcCoe
open Idealize.ShloMosaic.Pipeline (Dat Cfg Window)

/-! ## One tile -/

theorem tile_apply (w : Vec Ideal S1x128x128 .bf16) (v : Vec Ideal S128x256 .bf16) (b : Vec Ideal S128x1 .f32) (u : Vec Ideal S128x256 .bf16)
    (y : Fin 128) (z : Fin 256) :
    k0_pay2 w v b u (ix2 y z) = u (ix2 y z) * ((∑ s : Fin 128, w (ix3 0 y s) * v (ix2 s z)) + b (ix2 y 0)) := by
  unfold k0_pay2
  pointwise

/-- A block's gated mix: position `r` of a chunk takes the chunk's positions weighted by row `r` of its group's weights. -/
def mixed (u v : Vec Ideal S512x2048 .bf16) (w : Vec Ideal S8x128x128 .bf16) (b : Vec Ideal S128x8 .f32) (y : Fin 512) (z : Fin 2048) : EReal :=
  u (ix2 y z) * ((∑ s : Fin 128, w (ix3 ⟨z.val / 256, by omega⟩ ⟨y.val % 128, by omega⟩ s) * v (ix2 ⟨y.val / 128 * 128 + s.val, by omega⟩ z))
    + b (ix2 ⟨y.val % 128, by omega⟩ ⟨z.val / 256, by omega⟩))

/-- The tile at row `p` and column `q` is the part of `mixed` there. -/
theorem tile_eq (arg1 : Memref sig .tc .vmem S512x2048 .bf16) (harg1 : arg1.IsWhole) (arg2 : Memref sig .tc .vmem S512x2048 .bf16) (harg2 : arg2.IsWhole)
    (arg3 : Memref sig .tc .vmem S8x128x128 .bf16) (harg3 : arg3.IsWhole) (arg4 : Memref sig .tc .vmem S128x8 .f32) (harg4 : arg4.IsWhole)
    (u v : Vec Ideal S512x2048 .bf16) (w : Vec Ideal S8x128x128 .bf16) (b : Vec Ideal S128x8 .f32) (p q g : ℕ) (hp : p % 128 = 0) (hq : q = 256 * g)
    (inb : ∀ d, (![p, q] : Fin 2 → ℕ) d + S128x256.size d ≤ S512x2048.size d)
    (inw : ∀ d, (![g, 0, 0] : Fin 3 → ℕ) d + S1x128x128.size d ≤ S8x128x128.size d)
    (inc : ∀ d, (![0, g] : Fin 2 → ℕ) d + S128x1.size d ≤ S128x8.size d) (x : S128x256.Idx) :
    k0_pay2 (View.readAt (Elt Ideal) arg3.view (Rect.unit (s := S8x128x128) ![g, 0, 0] S1x128x128.size inw).toLoadRect (harg3.unread w))
        (View.readAt (Elt Ideal) arg2.view (Rect.unit (s := S512x2048) ![p, q] S128x256.size inb).toLoadRect (harg2.unread v))
        (View.readAt (Elt Ideal) arg4.view (Rect.unit (s := S128x8) ![0, g] S128x1.size inc).toLoadRect (harg4.unread b))
        (View.readAt (Elt Ideal) arg1.view (Rect.unit (s := S512x2048) ![p, q] S128x256.size inb).toLoadRect (harg1.unread u)) x
      = (fun i : S512x2048.Idx => mixed u v w b (i 0) (i 1)) ((Rect.unit (s := S512x2048) ![p, q] S128x256.size inb).emb x) := by
  have hp' : p + 128 ≤ 512 := inb 0
  have hq' : q + 256 ≤ 2048 := inb 1
  obtain ⟨y, z, rfl⟩ : ∃ (y : Fin 128) (z : Fin 256), x = ix2 y z := ⟨x 0, x 1, eq_ix2 x⟩
  refine (tile_apply _ _ _ _ y z).trans ?_
  unfold mixed
  refine congrArg₂ (· * ·) ((harg1.readAt_unread u _ _).trans (congrArg u (funext fun d => Fin.ext ?_)))
    (congrArg₂ (· + ·) (Finset.sum_congr rfl fun s _ => congrArg₂ (· * ·)
      ((harg3.readAt_unread w _ _).trans (congrArg w (funext fun d => Fin.ext ?_)))
      ((harg2.readAt_unread v _ _).trans (congrArg v (funext fun d => Fin.ext ?_))))
      ((harg4.readAt_unread b _ _).trans (congrArg b (funext fun d => Fin.ext ?_))))
  · fin_cases d <;> rfl
  · fin_cases d
    · show g + 1 * 0 = (q + 1 * z.val) / 256; omega
    · show 0 + 1 * y.val = (p + 1 * y.val) % 128; omega
    · show 0 + 1 * s.val = s.val; omega
  · fin_cases d
    · show p + 1 * s.val = (p + 1 * y.val) / 128 * 128 + s.val; omega
    · rfl
  · fin_cases d
    · show 0 + 1 * y.val = (p + 1 * y.val) % 128; omega
    · show g + 1 * 0 = (q + 1 * z.val) / 256; omega

/-! ## One block -/

section
variable (c : Dev nD) (i : grid0.Coords) (arg1 : Memref sig .tc .vmem S512x2048 .bf16) (harg1 : arg1.IsWhole) (arg2 : Memref sig .tc .vmem S512x2048 .bf16) (harg2 : arg2.IsWhole)
    (arg3 : Memref sig .tc .vmem S8x128x128 .bf16) (harg3 : arg3.IsWhole) (arg4 : Memref sig .tc .vmem S128x8 .f32) (harg4 : arg4.IsWhole)
    (arg5 : Memref sig .tc .vmem S2048x1024 .bf16) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x2048 .bf16) (harg8 : arg8.IsWhole)
    (u v : Vec Ideal S512x2048 .bf16) (w : Vec Ideal S8x128x128 .bf16) (b : Vec Ideal S128x8 .f32) (D : Vec Ideal S2048x1024 .bf16) (h : Vec Ideal S512x1024 .f32)

set_option maxHeartbeats 4000000 in
/-- The tiles as the run stores them fill the buffer with `mixed`. -/
theorem tiles_eq :
    View.canon (kernelRun0_A.sl.HS0_32 c arg1 harg1 arg2 harg2 arg3 harg3 arg4 harg4 u v w b) = fun i : S512x2048.Idx => mixed u v w b (i 0) (i 1) := by
  funext y
  have hc := View.cover_of_tiledL (kernelRun0_A.sl.HS0_32 c arg1 harg1 arg2 harg2 arg3 harg3 arg4 harg4 u v w b) (![128, 256] : Fin 2 → ℕ) (by sl_kernel_rfl)
  refine View.canon_apply_of_pieces (fun i : S512x2048.Idx => mixed u v w b (i 0) (i 1)) _ ?_ y (hc y)
  intro pc hpc
  unfold kernelRun0_A.sl.HS0_32 at hpc
  repeat
    rcases List.mem_cons.mp hpc with rfl | hpc
    · exact fun x => tile_eq arg1 harg1 arg2 harg2 arg3 harg3 arg4 harg4 u v w b _ _ _ (by rfl) (by rfl) _ _ _ x
  exact absurd hpc List.not_mem_nil

end

end Cert.GmlpOutIdeal.Layer

end
-- ==== Proof.GmlpOutValue.lean ====
/-
  The second half of the gMLP mixer at the ideal values: a block is the residual plus the gated mix's product with the weights, and the
  result is its blocks.
-/
module

public import proofs.«01_k».proof.Proof.GmlpOutTiles
public import proofs.«01_k».proof.Proof.Gen.GmlpOutReferenceIdeal.Read

@[expose] public section

set_option maxRecDepth 16384

noncomputable section

namespace Cert.GmlpOut.Layer

open Idealize.ShloMosaic Cert.Experts

/-- Column `q` of row `n` after the mix and the gate: the row's chunk starts at a multiple of 128, the column's group holds 256. -/
def gate (u v : Fin 16384 → Fin 2048 → EReal) (w : Fin 8 → Fin 128 → Fin 128 → EReal) (b : Fin 8 → Fin 128 → EReal) (n : Fin 16384) (q : Fin 2048) : EReal :=
  u n q * ((∑ s : Fin 128, w ⟨q.val / 256, by omega⟩ ⟨n.val % 128, by omega⟩ s * v ⟨n.val / 128 * 128 + s.val, by omega⟩ q)
    + b ⟨q.val / 256, by omega⟩ ⟨n.val % 128, by omega⟩)

end Cert.GmlpOut.Layer

namespace Cert.GmlpOutIdeal.Layer

open Cert.GmlpOutIdeal Cert.GmlpOutIdeal.Gen Cert.Experts Cert.GmlpOut.Layer
open Cert.DenseIdeal.Layer (zero_pair)
open Idealize.ShloMosaic Idealize.ShloMosaic.TcCoe
open Idealize.ShloMosaic.Pipeline (Dat Cfg Window)

/-! ## One block -/

theorem product_apply (h : Vec Ideal S512x1024 .f32) (a : Vec Ideal S512x2048 .bf16) (D : Vec Ideal S2048x1024 .bf16) (y : Fin 512) (z : Fin 1024) :
    k0_pay1 h a D (ix2 y z) = h (ix2 y z) + ∑ q : Fin 2048, a (ix2 y q) * D (ix2 q z) := by
  unfold k0_pay1
  pointwise

section
variable (c : Dev nD) (i : grid0.Coords) (arg1 : Memref sig .tc .vmem S512x2048 .bf16) (harg1 : arg1.IsWhole) (arg2 : Memref sig .tc .vmem S512x2048 .bf16) (harg2 : arg2.IsWhole)
    (arg3 : Memref sig .tc .vmem S8x128x128 .bf16) (harg3 : arg3.IsWhole) (arg4 : Memref sig .tc .vmem S128x8 .f32) (harg4 : arg4.IsWhole)
    (arg5 : Memref sig .tc .vmem S2048x1024 .bf16) (harg5 : arg5.IsWhole) (arg6 : Memref sig .tc .vmem S512x1024 .f32) (harg6 : arg6.IsWhole)
    (arg7 : Memref sig .tc .vmem S512x1024 .f32) (harg7 : arg7.IsWhole) (arg8 : Memref sig .tc .vmem S512x2048 .bf16) (harg8 : arg8.IsWhole)
    (u v : Vec Ideal S512x2048 .bf16) (w : Vec Ideal S8x128x128 .bf16) (b : Vec Ideal S128x8 .f32) (D : Vec Ideal S2048x1024 .bf16) (h : Vec Ideal S512x1024 .f32)

theorem block_apply (y : Fin 512) (z : Fin 1024) :
    out0_A_6 c i arg1 harg1 arg2 harg2 arg3 harg3 arg4 harg4 arg5 harg5 arg6 harg6 arg7 harg7 arg8 harg8 u v w b D h (ix2 y z)
      = h (ix2 y z) + ∑ q : Fin 2048, mixed u v w b y q * D (ix2 q z) := by
  unfold out0_A_6
  rw [View.read_writes_junk_eq_canon]
  unfold kernelRun0_A
  dsimp only
  refine (congrFun (View.canon_unit_zero zero_pair _ _) _).trans ((product_apply _ _ _ y z).trans ?_)
  refine congrArg₂ (· + ·) ?_ (Finset.sum_congr rfl fun q _ => congrArg₂ (· * ·) ?_ ?_)
  · refine (harg6.readAt_unread h _ _).trans (congrArg h (funext fun d => Fin.ext ?_))
    fin_cases d
    · show 0 + 1 * y.val = y.val; omega
    · show 0 + 1 * z.val = z.val; omega
  · refine (congrFun (View.readCov_eq_canon' arg8.view _ _) _).trans ?_
    rw [tiles_eq]
    refine congrArg₂ (mixed u v w b) (Fin.ext ?_) (Fin.ext ?_)
    · show 0 + 1 * y.val = y.val; omega
    · show 0 + 1 * q.val = q.val; omega
  · refine (harg5.readAt_unread D _ _).trans (congrArg D (funext fun d => Fin.ext ?_))
    fin_cases d
    · show 0 + 1 * q.val = q.val; omega
    · show 0 + 1 * z.val = z.val; omega

end

/-! ## The blocks the pipeline stages -/

variable (m : (ℓ : Loc nD τ sig) → Buf (Elt Ideal) ℓ)

theorem gates_apply (c : Dev nD) (t : Fin cfg0.N) (n : Fin 16384) (y : Fin 512) (hn : n.val = t.val * 512 + y.val) (z : Fin 2048) :
    (iblk m c 0 t : Vec Ideal S512x2048 .bf16) (ix2 y z) = (m ((c.tc : Thread nD τ).loc main_arg0) : FVec Ideal S16384x2048 .bf16) (ix2 n z) := by
  refine Eq.trans ?_ (congrFun (V_main_arg0 m c) (ix2 n z))
  refine congrArg (V m c main_arg0) (funext fun b => Fin.ext ?_)
  refine (Window.rect_emb_val (cfg0.win (0 : Fin 7)) t (ix2 y z) b).trans ?_
  have e : (cfg0.win (0 : Fin 7)).index t = ![t.val, 0] := (by decide +kernel : ∀ t : Fin grid0.N, win0_0.index t = ![t.val, 0]) t
  rw [e]
  fin_cases b
  · exact hn.symm
  · exact Nat.zero_add _

theorem values_apply (c : Dev nD) (t : Fin cfg0.N) (n : Fin 16384) (y : Fin 512) (hn : n.val = t.val * 512 + y.val) (z : Fin 2048) :
    (iblk m c 1 t : Vec Ideal S512x2048 .bf16) (ix2 y z) = (m ((c.tc : Thread nD τ).loc main_arg1) : FVec Ideal S16384x2048 .bf16) (ix2 n z) := by
  refine Eq.trans ?_ (congrFun (V_main_arg1 m c) (ix2 n z))
  refine congrArg (V m c main_arg1) (funext fun b => Fin.ext ?_)
  refine (Window.rect_emb_val (cfg0.win (1 : Fin 7)) t (ix2 y z) b).trans ?_
  have e : (cfg0.win (1 : Fin 7)).index t = ![t.val, 0] := (by decide +kernel : ∀ t : Fin grid0.N, win0_1.index t = ![t.val, 0]) t
  rw [e]
  fin_cases b
  · exact hn.symm
  · exact Nat.zero_add _

theorem residual_apply (c : Dev nD) (t : Fin cfg0.N) (n : Fin 16384) (y : Fin 512) (hn : n.val = t.val * 512 + y.val) (z : Fin 1024) :
    (iblk m c 5 t : Vec Ideal S512x1024 .f32) (ix2 y z) = (m ((c.tc : Thread nD τ).loc main_arg5) : FVec Ideal S16384x1024 .f32) (ix2 n z) := by
  refine Eq.trans ?_ (congrFun (V_main_arg5 m c) (ix2 n z))
  refine congrArg (V m c main_arg5) (funext fun b => Fin.ext ?_)
  refine (Window.rect_emb_val (cfg0.win (5 : Fin 7)) t (ix2 y z) b).trans ?_
  have e : (cfg0.win (5 : Fin 7)).index t = ![t.val, 0] := (by decide +kernel : ∀ t : Fin grid0.N, win0_5.index t = ![t.val, 0]) t
  rw [e]
  fin_cases b
  · exact hn.symm
  · exact Nat.zero_add _

/-- The mixing weights the kernel takes are the reference's masked ones. -/
theorem mixing_apply (c : Dev nD) (t : Fin cfg0.N) (g : Fin 8) (r s : Fin 128) :
    (iblk m c 2 t : Vec Ideal S8x128x128 .bf16) (ix3 g r s)
      = Cert.GmlpOutReferenceIdeal.Read.val_main_v6 (F := Ideal) (m ((c.tc : Thread nD τ).loc main_arg2) : FVec Ideal S8x128x128 .f32) (ix3 g r s) := by
  have e : V m c main_v4 = (truncf .bf16 (Cert.GmlpOutReferenceIdeal.Read.val_main_v6 (F := Ideal)
      (m ((c.tc : Thread nD τ).loc main_arg2) : FVec Ideal S8x128x128 .f32) : FVec Ideal S8x128x128 .f32) bitsLt_bf16_f32 : FVec Ideal S8x128x128 .bf16) := by
    simp only [V, hostOps0, hostOps0_1, hostOps0_2, hostOps0_3, hostOps0_4, List.flatten_cons, List.flatten_nil, List.append_nil, List.cons_append, List.nil_append]
    after_results_simp
    rfl
  refine Eq.trans (congrArg (V m c main_v4) (funext fun b => Fin.ext ?_)) (congrFun e (ix3 g r s))
  refine (Window.rect_emb_val (cfg0.win (2 : Fin 7)) t (ix3 g r s) b).trans ?_
  fin_cases b <;> exact Nat.zero_add _

theorem shift_apply (c : Dev nD) (t : Fin cfg0.N) (r : Fin 128) (g : Fin 8) :
    (iblk m c 3 t : Vec Ideal S128x8 .f32) (ix2 r g) = (m ((c.tc : Thread nD τ).loc main_arg3) : FVec Ideal S8x128 .f32) (ix2 g r) := by
  have e : V m c main_v5 = (transpose S128x8 [1, 0] (m ((c.tc : Thread nD τ).loc main_arg3) : FVec Ideal S8x128 .f32) transposes_S8x128_S128x8_1_0 : FVec Ideal S128x8 .f32) := by
    simp only [V, hostOps0, hostOps0_1, hostOps0_2, hostOps0_3, hostOps0_4, List.flatten_cons, List.flatten_nil, List.append_nil, List.cons_append, List.nil_append]
    after_results_simp
  refine Eq.trans (congrArg (V m c main_v5) (funext fun b => Fin.ext ?_)) ((congrFun e (ix2 r g)).trans (by pointwise))
  refine (Window.rect_emb_val (cfg0.win (3 : Fin 7)) t (ix2 r g) b).trans ?_
  fin_cases b <;> exact Nat.zero_add _

theorem weights_apply (c : Dev nD) (t : Fin cfg0.N) (q : Fin 2048) (z : Fin 1024) :
    (iblk m c 4 t : Vec Ideal S2048x1024 .bf16) (ix2 q z) = (m ((c.tc : Thread nD τ).loc main_arg4) : FVec Ideal S2048x1024 .f32) (ix2 q z) := by
  have e : V m c main_v6 = (truncf .bf16 (m ((c.tc : Thread nD τ).loc main_arg4) : FVec Ideal S2048x1024 .f32) bitsLt_bf16_f32 : FVec Ideal S2048x1024 .bf16) := by
    simp only [V, hostOps0, hostOps0_1, hostOps0_2, hostOps0_3, hostOps0_4, List.flatten_cons, List.flatten_nil, List.append_nil, List.cons_append, List.nil_append]
    after_results_simp
  refine Eq.trans (congrArg (V m c main_v6) (funext fun b => Fin.ext ?_)) ((congrFun e (ix2 q z)).trans (by pointwise))
  refine (Window.rect_emb_val (cfg0.win (4 : Fin 7)) t (ix2 q z) b).trans ?_
  fin_cases b <;> exact Nat.zero_add _

/-! ## The result -/

theorem row_split (n : Fin 16384) : ∃ (t : Fin cfg0.N) (y : Fin 512), n.val = t.val * 512 + y.val := by
  have hN : grid0.N = 32 := by decide
  exact ⟨⟨n.val / 512, by show _ < grid0.N; omega⟩, ⟨n.val % 512, Nat.mod_lt _ (by decide)⟩, by show n.val = n.val / 512 * 512 + n.val % 512; omega⟩

/-- Row `n` of the residual layer's second half: the residual row plus the gated row's product with the weights. -/
def out (u v : FVec Ideal S16384x2048 .bf16) (w : FVec Ideal S8x128x128 .f32) (b : FVec Ideal S8x128 .f32) (D : FVec Ideal S2048x1024 .f32)
    (h : FVec Ideal S16384x1024 .f32) (n : Fin 16384) (z : Fin 1024) : EReal :=
  h (ix2 n z) + ∑ q : Fin 2048, gate (fun n q => u (ix2 n q)) (fun n q => v (ix2 n q))
    (fun g r s => Cert.GmlpOutReferenceIdeal.Read.val_main_v6 (F := Ideal) w (ix3 g r s)) (fun g r => b (ix2 g r)) n q * D (ix2 q z)

/-- The element of the result at row `n`. -/
theorem result_apply (c : Dev nD) (n : Fin 16384) (z : Fin 1024) :
    (dats m 0 c).arrAt (6 : Fin 7) cfg0.N (ix2 n z : S16384x1024.Idx)
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) n z := by
  obtain ⟨t, y, hn⟩ := row_split n
  have hf : (cfg0.win (6 : Fin 7)).flush t = true := (by decide +kernel : ∀ t : Fin grid0.N, win0_6.flush t = true) t
  have he : ((cfg0.win (6 : Fin 7)).blk t).view.emb (ix2 y z : S512x1024.Idx) = (ix2 n z : S16384x1024.Idx) := by
    refine funext fun b => Fin.ext ?_
    refine (Window.rect_emb_val (cfg0.win (6 : Fin 7)) t (ix2 y z) b).trans ?_
    have e : (cfg0.win (6 : Fin 7)).index t = ![t.val, 0] := (by decide +kernel : ∀ t : Fin grid0.N, win0_6.index t = ![t.val, 0]) t
    rw [e]
    fin_cases b
    · exact hn.symm
    · exact Nat.zero_add _
  have hb := congrFun ((Cert.GmlpOutIdeal.Value.blocks6 m c t hf).trans (Cert.GmlpOutIdeal.Value.flushed6_A m c t)) (ix2 y z : S512x1024.Idx)
  refine Eq.trans (congrArg ((dats m 0 c).arrAt (6 : Fin 7) cfg0.N) he.symm) (hb.trans ?_)
  unfold out
  refine (block_apply _ _ _ _ _ _ _ _ _ _ _ _ _ _ _ _ _ _ _ _ _ _ _ _ y z).trans ?_
  refine congrArg₂ (· + ·) (residual_apply m c t n y hn z) (Finset.sum_congr rfl fun q _ => congrArg₂ (· * ·) ?_ (weights_apply m c t q z))
  unfold mixed gate
  refine congrArg₂ (· * ·) (gates_apply m c t n y hn q) (congrArg₂ (· + ·) (Finset.sum_congr rfl fun s _ => congrArg₂ (· * ·) ?_ ?_) ?_)
  · refine (mixing_apply m c t _ _ s).trans (congrArg (fun r => Cert.GmlpOutReferenceIdeal.Read.val_main_v6 (F := Ideal) _ (ix3 _ r s)) (Fin.ext ?_))
    show y.val % 128 = n.val % 128
    omega
  · refine values_apply m c t _ _ ?_ q
    show n.val / 128 * 128 + s.val = t.val * 512 + (y.val / 128 * 128 + s.val)
    omega
  · refine (shift_apply m c t _ _).trans (congrArg (fun r => (m ((c.tc : Thread nD τ).loc main_arg3) : FVec Ideal S8x128 .f32) (ix2 _ r)) (Fin.ext ?_))
    show y.val % 128 = n.val % 128
    omega

end Cert.GmlpOutIdeal.Layer

end
-- ==== Proof.GmlpOutRef.lean ====
/-
  The reference of the second half of the gMLP mixer, element by element.
-/
module

public import proofs.«01_k».proof.Proof.GmlpOutValue
public import Idealize.ShloMosaic.Lib.Pointwise

@[expose] public section

set_option maxRecDepth 16384

noncomputable section

namespace Cert.GmlpOutReferenceIdeal.Layer

open Cert.GmlpOutReferenceIdeal Cert.GmlpOutReferenceIdeal.Gen Cert.GmlpOutReferenceIdeal.Read Cert.Experts Cert.GmlpOut.Layer
open Idealize.ShloMosaic

variable (u v : FVec Ideal S16384x2048 .bf16) (w : FVec Ideal S8x128x128 .f32) (b : FVec Ideal S8x128 .f32) (D : FVec Ideal S2048x1024 .f32)
  (h : FVec Ideal S16384x1024 .f32)

theorem gate_apply (n : Fin 16384) (q : Fin 2048) :
    val_main_v15 (F := Ideal) u v w b (ix2 n q) = gate (fun n q => u (ix2 n q)) (fun n q => v (ix2 n q))
      (fun g r s => val_main_v6 (F := Ideal) w (ix3 g r s)) (fun g r => b (ix2 g r)) n q := by
  unfold gate val_main_v15 val_main_v14 val_main_v13 val_main_v12 val_main_v11 val_main_v10 val_main_v9 val_main_v8 val_main_v7 val_main_v2 val_main_v1 val_main_v0
  generalize val_main_v6 (F := Ideal) w = t
  pointwise
  refine congrArg (u (ix2 n q) * ·) (congrArg (· + _) (Finset.sum_congr rfl fun s _ => ?_))
  rw [mul_comm]
  refine congrArg (_ * ·) (congrArg (fun r => v (ix2 r q)) (Fin.ext ?_))
  show n.val / 2048 * 2048 + n.val / 128 % 16 * 128 + s.val = n.val / 128 * 128 + s.val
  omega

theorem result_apply (n : Fin 16384) (z : Fin 1024) :
    val_main_v17 (F := Ideal) u v w b D h (ix2 n z) = Cert.GmlpOutIdeal.Layer.out u v w b D h n z := by
  unfold Cert.GmlpOutIdeal.Layer.out
  rw [funext fun q => (gate_apply u v w b n q).symm]
  unfold val_main_v17 val_main_v16
  generalize val_main_v15 (F := Ideal) u v w b = t
  pointwise

end Cert.GmlpOutReferenceIdeal.Layer

end
-- ==== Proof.GmlpOutClaims.lean ====
/-
  What is claimed of the second half of the gMLP mixer: the kernel, its reading at the ideal values and the reference run, and the last
  two compute one function over the extended reals.
-/
module

public import proofs.«01_k».proof.Defs
public import proofs.«01_k».proof.Proof.GmlpOutValue
public import proofs.«01_k».proof.Proof.GmlpOutRef
public import proofs.«01_k».proof.Proof.Gen.GmlpOut.Frame
public import proofs.«01_k».proof.Proof.Gen.GmlpOutReferenceIdeal.Run

@[expose] public section

noncomputable section

namespace Cert.GmlpOut.Layer

open Idealize.ShloMosaic Idealize.ShloMosaic.TcCoe Idealize.SL.Sem

theorem runs_kernel : Cert.quiescent_GmlpOut := fun m ρ _ => Cert.GmlpOut.Gen.frame m ρ

theorem runs_ideal : Cert.quiescent_GmlpOutIdeal := fun m ρ _ => Cert.GmlpOutIdeal.Gen.frame m ρ

theorem runs_reference : Cert.quiescent_GmlpOutReferenceIdeal := fun m ρ _ =>
  (θ_run _ _ _).mono (fun r h => ⟨fun c => (h c).2, sem_eq_zero_of_no_sems (by decide) r.2⟩)
    (Cert.GmlpOutReferenceIdeal.Value.run (F := Ideal) m ρ)

/-- Equal arguments give equal results of the reference. -/
theorem val_congr {x0 y0 x1 y1 x2 y2 x3 y3 x4 y4 x5 y5} (h0 : x0 = y0) (h1 : x1 = y1) (h2 : x2 = y2) (h3 : x3 = y3) (h4 : x4 = y4) (h5 : x5 = y5) :
    Cert.GmlpOutReferenceIdeal.Read.val_main_v17 (F := Ideal) x0 x1 x2 x3 x4 x5 = Cert.GmlpOutReferenceIdeal.Read.val_main_v17 (F := Ideal) y0 y1 y2 y3 y4 y5 := by
  subst h0 h1 h2 h3 h4 h5; rfl

theorem algebraic : Cert.algebraic_GmlpOutIdeal_GmlpOutReferenceIdeal := fun m ρ m' ρ' _ hag => by
  refine ⟨fun c => Cert.GmlpOutReferenceIdeal.Read.val_main_v17 (F := Ideal)
      (m ((c.tc : Thread Cert.GmlpOutIdeal.nD Cert.GmlpOutIdeal.τ).loc Cert.GmlpOutIdeal.main_arg0)) (m ((c.tc : Thread Cert.GmlpOutIdeal.nD Cert.GmlpOutIdeal.τ).loc Cert.GmlpOutIdeal.main_arg1))
      (m ((c.tc : Thread Cert.GmlpOutIdeal.nD Cert.GmlpOutIdeal.τ).loc Cert.GmlpOutIdeal.main_arg2)) (m ((c.tc : Thread Cert.GmlpOutIdeal.nD Cert.GmlpOutIdeal.τ).loc Cert.GmlpOutIdeal.main_arg3))
      (m ((c.tc : Thread Cert.GmlpOutIdeal.nD Cert.GmlpOutIdeal.τ).loc Cert.GmlpOutIdeal.main_arg4)) (m ((c.tc : Thread Cert.GmlpOutIdeal.nD Cert.GmlpOutIdeal.τ).loc Cert.GmlpOutIdeal.main_arg5)), ?_, ?_⟩
  · refine (θ_run _ _ _).mono (fun r h c => ⟨(h c).1.trans (funext fun i => ?_), (h c).2⟩) (Cert.GmlpOutIdeal.Value.run_blocks m ρ)
    rw [eq_ix2 i]
    exact (Cert.GmlpOutIdeal.Layer.result_apply m c _ _).trans (Cert.GmlpOutReferenceIdeal.Layer.result_apply _ _ _ _ _ _ _ _).symm
  · refine (θ_run _ _ _).mono (fun r h c => ⟨?_, (h c).2⟩) (Cert.GmlpOutReferenceIdeal.Value.run m' ρ')
    refine ((h c).1.trans (Cert.GmlpOutReferenceIdeal.Read.val_main_v17_eq _ _ _ _ _ _)).trans ?_
    obtain ⟨h0, h1, h2, h3, h4, h5⟩ := hag c
    exact val_congr h0 h1 h2 h3 h4 h5

end Cert.GmlpOut.Layer

end
-- ==== Proof.RouteSpec.lean ====
/-
  The router's mathematics: a token's score for each of the eight experts, the two experts with the greatest scores (of equal scores
  the earlier expert first), and the two weights that the softmax of the two scores gives them. The kernel finds the two by a maximum
  and the least place that attains it, twice; the reference by a stable sort. Both find the same two.
-/
module

public import proofs.«01_k».proof.Proof.Spec
public import Idealize.ShloMosaic.Lib.SortPrefix
public import Idealize.ShloMosaic.Lib.SortNet.Extract

@[expose] public section

noncomputable section

namespace Cert.Route.Layer

open Idealize.ShloMosaic Cert.Experts

/-! ## Real scores -/

/-- An extended real that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

/-- A sum of real numbers, taken among the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ k, IsReal (f k)) : IsReal (∑ k ∈ s, f k) := by
  choose r hr using h
  exact ⟨∑ k ∈ s, r k, by rw [← sum_coe]; exact Finset.sum_congr rfl fun k _ => hr k⟩

theorem IsReal.ne_bot {x : EReal} : IsReal x → x ≠ ⊥
  | ⟨_, h⟩ => h ▸ EReal.coe_ne_bot _

/-- An absolute value below infinity is that of a real number. -/
theorem isReal_of_abs_lt {x : EReal} (h : (max x (-x) : EReal) < ⊤) : IsReal x := by
  induction x with
  | bot => simp at h
  | coe r => exact ⟨r, rfl⟩
  | top => simp at h

theorem ofBits_columns : Ideal.ofBits .f32 0x44800000#32 = ((1024 : ℝ) : EReal) := by
  simp [Ideal.ofBits, Ideal.ieee, -EReal.coe_mul]; norm_num

theorem ofBits_eps : Ideal.ofBits .f32 0x358637BD#32 = ((8796093 / 8796093022208 : ℝ) : EReal) := by
  simp [Ideal.ofBits, Ideal.ieee, -EReal.coe_mul]; norm_num

theorem isReal_rmsRow {x g : Fin 1024 → EReal} (hx : ∀ k, IsReal (x k)) (hg : ∀ k, IsReal (g k)) (z : Fin 1024) : IsReal (rmsRow x g z) := by
  unfold rmsRow
  refine ((hx z).mul ?_).mul (hg z)
  choose r hr using hx
  have hs : ∑ k, x k * x k = ((∑ k, r k * r k : ℝ) : EReal) := by
    rw [← sum_coe]
    exact Finset.sum_congr rfl fun k _ => by rw [hr, EReal.coe_mul]
  have h0 : 0 ≤ ∑ k, r k * r k := Finset.sum_nonneg fun k _ => mul_self_nonneg _
  have hd : Ideal.div ((∑ k, r k * r k : ℝ) : EReal) ((1024 : ℝ) : EReal) = (((∑ k, r k * r k) * (1024 : ℝ)⁻¹ : ℝ) : EReal) := by
    rw [Ideal.div, if_neg (by exact_mod_cast (by norm_num : (1024 : ℝ) ≠ 0)), ← EReal.coe_inv, EReal.coe_mul]
  have hp : 0 < (∑ k, r k * r k) * (1024 : ℝ)⁻¹ + 8796093 / 8796093022208 := by positivity
  rw [hs, ofBits_columns, ofBits_eps, hd, ← EReal.coe_add, Ideal.rsqrt_coe, if_neg (not_lt.2 hp.le), if_neg hp.ne']
  exact ⟨_, rfl⟩

/-- A token's score for each expert. -/
def score (x g : Fin 1024 → EReal) (w : Fin 1024 → Fin 8 → EReal) (e : Fin 8) : EReal := ∑ k, rmsRow x g k * w k e

theorem isReal_score {x g : Fin 1024 → EReal} {w : Fin 1024 → Fin 8 → EReal} (hx : ∀ k, IsReal (x k)) (hg : ∀ k, IsReal (g k))
    (hw : ∀ k e, IsReal (w k e)) (e : Fin 8) : IsReal (score x g w e) :=
  IsReal.sum _ _ fun k => (isReal_rmsRow hx hg k).mul (hw k e)

/-! ## The two greatest scores -/

/-- `p` is the first expert of the greatest score, and `q` the first of the greatest score among the others. -/
structure TopTwo (x : Fin 8 → EReal) (p q : Fin 8) : Prop where
  le_first : ∀ k, x k ≤ x p
  first_least : ∀ k, x k = x p → p ≤ k
  ne : q ≠ p
  le_second : ∀ k, k ≠ p → x k ≤ x q
  second_least : ∀ k, k ≠ p → x k = x q → q ≤ k

/-- Among some experts, the first of the greatest score. -/
theorem exists_first_greatest (x : Fin 8 → EReal) (s : Finset (Fin 8)) (hs : s.Nonempty) :
    ∃ p ∈ s, (∀ k ∈ s, x k ≤ x p) ∧ ∀ k ∈ s, x k = x p → p ≤ k := by
  obtain ⟨b, hb, hmax⟩ := Finset.exists_max_image s x hs
  obtain ⟨p, hp, hmin⟩ := Finset.exists_min_image (s.filter fun k => x k = x b) id ⟨b, Finset.mem_filter.2 ⟨hb, rfl⟩⟩
  obtain ⟨hps, hpb⟩ := Finset.mem_filter.1 hp
  refine ⟨p, hps, fun k hk => hpb ▸ hmax k hk, fun k hk e => hmin k (Finset.mem_filter.2 ⟨hk, e.trans hpb⟩)⟩

theorem exists_topTwo (x : Fin 8 → EReal) : ∃ p q, TopTwo x p q := by
  obtain ⟨p, -, h1, h2⟩ := exists_first_greatest x Finset.univ Finset.univ_nonempty
  obtain ⟨q, hq, h3, h4⟩ := exists_first_greatest x (Finset.univ.erase p) ⟨p + 1, by simp⟩
  exact ⟨p, q, fun k => h1 k (Finset.mem_univ k), fun k => h2 k (Finset.mem_univ k), Finset.ne_of_mem_erase hq,
    fun k hk => h3 k (Finset.mem_erase.2 ⟨hk, Finset.mem_univ k⟩), fun k hk => h4 k (Finset.mem_erase.2 ⟨hk, Finset.mem_univ k⟩)⟩

/-! ## By maxima and least places -/

/-- The greatest of a family, as a fold of maxima from the bottom. -/
theorem fold_max_eq {n : ℕ} (x : Fin n → EReal) (p : Fin n) (h : ∀ k, x k ≤ x p) : Finset.univ.fold max (⊥ : EReal) x = x p :=
  le_antisymm ((Finset.fold_max_le _).2 ⟨bot_le, fun k _ => h k⟩) ((Finset.le_fold_max _).2 (.inr ⟨p, Finset.mem_univ p, le_rfl⟩))

theorem toInt_place (k : Fin 8) : (BitVec.ofNat 32 k.val).toInt = (k.val : ℤ) :=
  (by decide : ∀ k : Fin 8, (BitVec.ofNat 32 k.val).toInt = (k.val : ℤ)) k

/-- The least place with a property, as a fold of signed minima over the places, those without the property counted as eight. -/
theorem fold_minsi_eq (c : Fin 8 → Prop) [DecidablePred c] (p : Fin 8) (hp : c p) (h : ∀ k, c k → p ≤ k) :
    Finset.univ.fold IntOp.minsi 2147483647#32 (fun k : Fin 8 => if c k then BitVec.ofNat 32 k.val else 8#32) = BitVec.ofNat 32 p.val := by
  apply BitVec.eq_of_toInt_eq
  rw [← Finset.fold_hom (op := IntOp.minsi) (op' := min) (m := BitVec.toInt) SortNet.toInt_minsi, toInt_place]
  refine le_antisymm ((Finset.fold_min_le _).2 (.inr ⟨p, Finset.mem_univ p, ?_⟩)) ((Finset.le_fold_min _).2 ⟨?_, fun k _ => ?_⟩)
  · rw [if_pos hp, toInt_place]
  · have : (2147483647#32 : BitVec 32).toInt = 2147483647 := by decide
    omega
  · by_cases hk : c k
    · rw [if_pos hk, toInt_place]
      exact_mod_cast h k hk
    · have : (8#32 : BitVec 32).toInt = 8 := by decide
      rw [if_neg hk, this]
      omega

/-- The scores with the first expert's struck out. -/
def rest (x : Fin 8 → EReal) (p k : Fin 8) : EReal := if k = p then ⊥ else x k

variable {x : Fin 8 → EReal} {p q : Fin 8}

theorem TopTwo.max_rest (h : TopTwo x p q) : Finset.univ.fold max (⊥ : EReal) (rest x p) = x q := by
  have e : rest x p q = x q := if_neg h.ne
  rw [← e]
  refine fold_max_eq _ _ fun k => ?_
  rw [e]
  unfold rest
  split
  · exact bot_le
  · exact h.le_second k ‹_›

theorem TopTwo.place_first (h : TopTwo x p q) :
    Finset.univ.fold IntOp.minsi 2147483647#32 (fun k : Fin 8 => if x k = x p then BitVec.ofNat 32 k.val else 8#32) = BitVec.ofNat 32 p.val :=
  fold_minsi_eq (fun k => x k = x p) p rfl h.first_least

theorem TopTwo.place_second (h : TopTwo x p q) (hq : IsReal (x q)) :
    Finset.univ.fold IntOp.minsi 2147483647#32 (fun k : Fin 8 => if rest x p k = x q then BitVec.ofNat 32 k.val else 8#32)
      = BitVec.ofNat 32 q.val := by
  refine fold_minsi_eq (fun k => rest x p k = x q) q (if_neg h.ne) fun k hk => ?_
  unfold rest at hk
  split at hk
  · exact absurd hk.symm hq.ne_bot
  · exact h.second_least k ‹_› hk

/-! ## By a stable sort -/

/-- Two relations that agree of a later and an earlier element of a list sort the list alike. -/
theorem stableSort_eq_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_eq_of_later {n : ℕ} (R R' : Fin n → Fin n → Bool) (h : ∀ a b, a < b → R b a = R' b a) : sortedFrom R = sortedFrom R' := by
  funext k
  unfold sortedFrom
  have e : sortPositions n R = sortPositions n R' := stableSort_eq_of_later R R' _ ((List.pairwise_lt_finRange n).imp (h _ _))
  rw [List.get_of_eq e]
  rfl

/-- The first two places of the stable sort by descending score. -/
theorem TopTwo.sortedFrom_eq (h : TopTwo x p q) (i : Fin 2) :
    sortedFrom (fun k k' => decide (x k' < x k)) (i.castLE (by decide) : Fin 8) = ![p, q] i := by
  rw [sortedFrom_eq_of_later _ (fun k k' => decide (x k' < x k) || (decide (x k = x k') && decide (k < k')))
    fun a b hab => by simp [not_lt.2 hab.le]]
  refine (StrictTotalBefore.of_key_then_position (fun a b => decide (b < a)) x (by simp)
    (fun a b c hab hbc => by simp only [decide_eq_true_eq] at *; exact hbc.trans hab)
    (fun a b => by simp only [decide_eq_true_eq]; rcases lt_trichotomy a b with h | h | h <;> simp [h])).sortedFrom_eq_of_prefix
    (by decide) ![p, q] ?_ ?_ ?_ i
  · intro i j hij
    fin_cases i <;> fin_cases j <;> simp_all [h.ne, h.ne.symm]
  · intro i j hij
    fin_cases i <;> fin_cases j <;> simp at hij ⊢
    exact ⟨h.le_first q, fun e => h.first_least q e⟩
  · intro i k hk
    have h0 : p ≠ k := hk 0
    have h1 : q ≠ k := hk 1
    have none : ∀ s : Fin 8, x k ≤ x s → (x k = x s → s ≤ k) → (decide (x s < x k) || (decide (x k = x s) && decide (k < s))) = false :=
      fun s hle hat => by simpa using ⟨hle, hat⟩
    fin_cases i
    · exact none p (h.le_first k) (h.first_least k)
    · exact none q (h.le_second k h0.symm) (h.second_least k h0.symm)

/-! ## The two weights -/

/-- Column `z` of a token's row of weights: the softmax of the two greatest scores in the first two columns, zero beyond. -/
def weight (a b : EReal) (z : Fin 128) : EReal :=
  if z.val < 1 then Ideal.div 1 (1 + Ideal.exp (b - a)) else if z.val < 2 then Ideal.div (Ideal.exp (b - a)) (1 + Ideal.exp (b - a)) else 0

end Cert.Route.Layer

end
-- ==== Proof.RouteValue.lean ====
/-
  The router's kernel, element by element: for each token, the first expert of the greatest score, the first of the greatest among the
  others, and the two weights.
-/
module

public import proofs.«01_k».proof.Proof.RouteSpec
public import proofs.«01_k».proof.Proof.Gen.RouteIdeal.Value
public import Idealize.ShloMosaic.Lib.Pointwise

@[expose] public section

noncomputable section

namespace Cert.RouteIdeal.Layer

open Cert.RouteIdeal Cert.RouteIdeal.Gen Cert.Experts Cert.Route.Layer
open Idealize.ShloMosaic Idealize.ShloMosaic.TcCoe
open Idealize.ShloMosaic.Pipeline (Dat Cfg Window)

theorem zero_pair : (![0, 0] : Fin 2 → ℕ) = fun _ => 0 := by
  funext b
  fin_cases b <;> rfl

/-! ## One block -/

section Block

variable (x : Vec Ideal S512x1024 .f32) (g : Vec Ideal S1x1024 .f32) (w : Vec Ideal S8x1024 .f32)

/-- The scores of row `y` of the block. -/
def row (y : Fin 512) : Fin 8 → EReal := score (fun k => x (ix2 y k)) (fun k => g (ix2 0 k)) (fun k e => w (ix2 e k))

theorem scores_apply (y : Fin 512) (e : Fin 8) : k0_pay2 x g w (ix2 e y) = row x g w y e := by
  unfold k0_pay2 row score rmsRow
  pointwise
  exact Finset.sum_congr rfl fun k _ => mul_comm _ _

theorem bottom : Ideal.ofBits .f32 0xFF800000#32 = ⊥ := by simp [Ideal.ofBits, Ideal.ieee]

variable {x g w} {y : Fin 512} {p q : Fin 8}

theorem greatest_apply (t : TopTwo (row x g w y) p q) : k0_pay3 x g w (ix2 0 y) = row x g w y p := by
  rw [← fold_max_eq (row x g w y) p t.le_first, ← funext (scores_apply x g w y)]
  unfold k0_pay3
  generalize k0_pay2 x g w = l
  pointwise [bottom]

theorem first_apply (t : TopTwo (row x g w y) p q) : k0_pay4 x g w (ix2 0 y) = BitVec.ofNat 32 p.val := by
  rw [← t.place_first, ← greatest_apply t]
  simp only [← scores_apply]
  unfold k0_pay4
  generalize k0_pay2 x g w = l
  generalize k0_pay3 x g w = v
  pointwise

theorem rest_apply (t : TopTwo (row x g w y) p q) (e : Fin 8) : k0_pay5 x g w (ix2 e y) = rest (row x g w y) p e := by
  have hr : k0_pay5 x g w (ix2 e y) = Scalar.select (IntOp.cmpi .eq (BitVec.ofNat 32 e.val) (k0_pay4 x g w (ix2 0 y))) ⊥ (k0_pay2 x g w (ix2 e y)) := by
    unfold k0_pay5
    generalize k0_pay2 x g w = l
    generalize k0_pay4 x g w = v
    pointwise [bottom]
  rw [hr, first_apply t, scores_apply]
  unfold rest
  by_cases h : e = p
  · rw [if_pos h, h]
    simp [Scalar.select, IntOp.cmpi]
  · have hb : BitVec.ofNat 32 e.val ≠ BitVec.ofNat 32 p.val := fun hb => h (Fin.ext (by
      have := congrArg BitVec.toInt hb
      rw [toInt_place, toInt_place] at this
      omega))
    rw [if_neg h]
    simp [Scalar.select, IntOp.cmpi, beq_eq_false_iff_ne.2 hb]

theorem second_greatest_apply (t : TopTwo (row x g w y) p q) : k0_pay6 x g w (ix2 0 y) = row x g w y q := by
  rw [← t.max_rest, ← funext (rest_apply t)]
  unfold k0_pay6
  generalize k0_pay5 x g w = l
  pointwise [bottom]

/-- The block of the experts. -/
theorem experts_apply (t : TopTwo (row x g w y) p q) (hq : IsReal (row x g w y q)) (i : Fin 2) :
    k0_pay8 x g w (ix2 i y) = BitVec.ofNat 32 (![p, q] i).val := by
  fin_cases i
  · refine Eq.trans ?_ (first_apply t)
    unfold k0_pay8
    generalize k0_pay6 x g w = v
    generalize k0_pay5 x g w = l
    generalize k0_pay4 x g w = u
    pointwise
  · refine Eq.trans ?_ (t.place_second hq)
    rw [← second_greatest_apply t]
    simp only [← rest_apply t]
    unfold k0_pay8
    generalize k0_pay6 x g w = v
    generalize k0_pay5 x g w = l
    generalize k0_pay4 x g w = u
    pointwise

/-- The block of the weights. -/
theorem weightsBlock_apply (t : TopTwo (row x g w y) p q) (z : Fin 128) :
    k0_pay1 (k0_pay7 x g w) (ix2 y z) = weight (row x g w y p) (row x g w y q) z := by
  have he : k0_pay7 x g w (ix2 0 y) = Ideal.exp (row x g w y q - row x g w y p) := by
    rw [← greatest_apply t, ← second_greatest_apply t]
    unfold k0_pay7
    generalize k0_pay6 x g w = v
    generalize k0_pay3 x g w = l
    pointwise
  unfold weight
  rw [← he]
  unfold k0_pay1
  generalize k0_pay7 x g w = v
  pointwise
  by_cases z1 : z.val < 1
  · have e : (⟨z.val, z1⟩ : Fin 1) = 0 := Subsingleton.elim _ _
    rw [dif_pos z1, if_pos z1, e]
  · rw [dif_neg z1, if_neg z1]
    by_cases z2 : z.val < 2
    · have e : (⟨z.val - 1, by omega⟩ : Fin 1) = 0 := Subsingleton.elim _ _
      rw [dif_pos (by omega), if_pos z2, e]
    · rw [dif_neg (by omega), if_neg z2]

end Block

/-! ## The blocks the pipeline stages -/

variable (m : (ℓ : Loc nD τ sig) → Buf (Elt Ideal) ℓ)

theorem tokens_apply (c : Dev nD) (t : Fin cfg0.N) (n : Fin 16384) (y : Fin 512) (hn : n.val = t.val * 512 + y.val) (z : Fin 1024) :
    (iblk m c 0 t : Vec Ideal S512x1024 .f32) (ix2 y z) = (m ((c.tc : Thread nD τ).loc main_arg0) : FVec Ideal S16384x1024 .f32) (ix2 n z) := by
  refine Eq.trans ?_ (congrFun (V_main_arg0 m c) (ix2 n z))
  refine congrArg (V m c main_arg0) (funext fun b => Fin.ext ?_)
  refine (Window.rect_emb_val (cfg0.win (0 : Fin 5)) t (ix2 y z) b).trans ?_
  have e : (cfg0.win (0 : Fin 5)).index t = ![t.val, 0] := (by decide +kernel : ∀ t : Fin grid0.N, win0_0.index t = ![t.val, 0]) t
  rw [e]
  fin_cases b
  · exact hn.symm
  · exact Nat.zero_add _

theorem scale_apply (c : Dev nD) (t : Fin cfg0.N) (k : Fin 1024) :
    (iblk m c 1 t : Vec Ideal S1x1024 .f32) (ix2 0 k) = (m ((c.tc : Thread nD τ).loc main_arg1) : FVec Ideal S1024 .f32) (ix1 k) := by
  have e : V m c main_v0 = (shapeCast S1x1024 (m ((c.tc : Thread nD τ).loc main_arg1) : FVec Ideal S1024 .f32) shapeCasts_S1024_S1x1024 : FVec Ideal S1x1024 .f32) := by
    dsimp only [V, hostOps0]
    after_results_simp
    rfl
  refine Eq.trans (congrArg (V m c main_v0) (funext fun b => Fin.ext ?_)) ((congrFun e (ix2 0 k)).trans (by pointwise))
  refine (Window.rect_emb_val (cfg0.win (1 : Fin 5)) t (ix2 0 k) b).trans ?_
  fin_cases b
  · rfl
  · exact Nat.zero_add _

theorem columns_apply (c : Dev nD) (t : Fin cfg0.N) (e : Fin 8) (k : Fin 1024) :
    (iblk m c 2 t : Vec Ideal S8x1024 .f32) (ix2 e k) = (m ((c.tc : Thread nD τ).loc main_arg2) : FVec Ideal S1024x8 .f32) (ix2 k e) := by
  have h : V m c main_v1 = (transpose S8x1024 [1, 0] (m ((c.tc : Thread nD τ).loc main_arg2) : FVec Ideal S1024x8 .f32) transposes_S1024x8_S8x1024_1_0 : FVec Ideal S8x1024 .f32) := by
    dsimp only [V, hostOps0]
    after_results_simp
  refine Eq.trans (congrArg (V m c main_v1) (funext fun b => Fin.ext ?_)) ((congrFun h (ix2 e k)).trans (by pointwise))
  refine (Window.rect_emb_val (cfg0.win (2 : Fin 5)) t (ix2 e k) b).trans ?_
  fin_cases b <;> exact Nat.zero_add _

/-! ## The results -/

/-- The point that holds row `n`, and the row within its block. -/
theorem row_split (n : Fin 16384) : ∃ (t : Fin cfg0.N) (y : Fin 512), n.val = t.val * 512 + y.val := by
  have hN : grid0.N = 32 := by decide
  refine ⟨⟨n.val / 512, by show _ < grid0.N; omega⟩, ⟨n.val % 512, Nat.mod_lt _ (by decide)⟩, ?_⟩
  show n.val = n.val / 512 * 512 + n.val % 512
  omega

/-- The scores of the token of row `n`. -/
def scores (c : Dev nD) (n : Fin 16384) : Fin 8 → EReal :=
  score (fun k => (m ((c.tc : Thread nD τ).loc main_arg0) : FVec Ideal S16384x1024 .f32) (ix2 n k))
    (fun k => (m ((c.tc : Thread nD τ).loc main_arg1) : FVec Ideal S1024 .f32) (ix1 k))
    (fun k e => (m ((c.tc : Thread nD τ).loc main_arg2) : FVec Ideal S1024x8 .f32) (ix2 k e))

theorem row_eq (c : Dev nD) (t : Fin cfg0.N) (n : Fin 16384) (y : Fin 512) (hn : n.val = t.val * 512 + y.val) :
    row (iblk m c 0 t) (iblk m c 1 t) (iblk m c 2 t) y = scores m c n := by
  unfold row scores
  rw [funext fun k => tokens_apply m c t n y hn k, funext fun k => scale_apply m c t k, funext fun k => funext fun e => columns_apply m c t e k]

theorem experts_result_apply (c : Dev nD) (n : Fin 16384) {p q : Fin 8} (h : TopTwo (scores m c n) p q) (hq : IsReal (scores m c n q)) (i : Fin 2) :
    (dats m 0 c).arrAt (3 : Fin 5) cfg0.N (ix2 i n : S2x16384.Idx) = BitVec.ofNat 32 (![p, q] i).val := by
  obtain ⟨t, y, hn⟩ := row_split n
  have hf : (cfg0.win (3 : Fin 5)).flush t = true := (by decide +kernel : ∀ t : Fin grid0.N, win0_3.flush t = true) t
  have he : ((cfg0.win (3 : Fin 5)).blk t).view.emb (ix2 i y : S2x512.Idx) = (ix2 i n : S2x16384.Idx) := by
    refine funext fun b => Fin.ext ?_
    refine (Window.rect_emb_val (cfg0.win (3 : Fin 5)) t (ix2 i y) b).trans ?_
    have e : (cfg0.win (3 : Fin 5)).index t = ![0, t.val] := (by decide +kernel : ∀ t : Fin grid0.N, win0_3.index t = ![0, t.val]) t
    rw [e]
    fin_cases b
    · exact Nat.zero_add _
    · exact hn.symm
  have hb := congrFun ((Cert.RouteIdeal.Value.blocks3 m c t hf).trans (Cert.RouteIdeal.Value.flushed3 m c t)) (ix2 i y : S2x512.Idx)
  refine Eq.trans (congrArg ((dats m 0 c).arrAt (3 : Fin 5) cfg0.N) he.symm) (hb.trans ?_)
  show out0_3 (iblk m c 0 t) (iblk m c 1 t) (iblk m c 2 t) (ix2 i y) = _
  rw [← row_eq m c t n y hn] at h hq
  unfold out0_3
  rw [View.canon_unit_zero zero_pair, View.ld_unit_zero zero_pair, View.ld_unit_zero zero_pair, View.ld_unit_zero zero_pair]
  exact experts_apply h hq i

theorem weights_result_apply (c : Dev nD) (n : Fin 16384) {p q : Fin 8} (h : TopTwo (scores m c n) p q) (z : Fin 128) :
    (dats m 0 c).arrAt (4 : Fin 5) cfg0.N (ix2 n z : S16384x128.Idx) = weight (scores m c n p) (scores m c n q) z := by
  obtain ⟨t, y, hn⟩ := row_split n
  have hf : (cfg0.win (4 : Fin 5)).flush t = true := (by decide +kernel : ∀ t : Fin grid0.N, win0_4.flush t = true) t
  have he : ((cfg0.win (4 : Fin 5)).blk t).view.emb (ix2 y z : S512x128.Idx) = (ix2 n z : S16384x128.Idx) := by
    refine funext fun b => Fin.ext ?_
    refine (Window.rect_emb_val (cfg0.win (4 : Fin 5)) t (ix2 y z) b).trans ?_
    have e : (cfg0.win (4 : Fin 5)).index t = ![t.val, 0] := (by decide +kernel : ∀ t : Fin grid0.N, win0_4.index t = ![t.val, 0]) t
    rw [e]
    fin_cases b
    · exact hn.symm
    · exact Nat.zero_add _
  have hb := congrFun ((Cert.RouteIdeal.Value.blocks4 m c t hf).trans (Cert.RouteIdeal.Value.flushed4 m c t)) (ix2 y z : S512x128.Idx)
  refine Eq.trans (congrArg ((dats m 0 c).arrAt (4 : Fin 5) cfg0.N) he.symm) (hb.trans ?_)
  show out0_4 (iblk m c 0 t) (iblk m c 1 t) (iblk m c 2 t) (ix2 y z) = _
  rw [← row_eq m c t n y hn] at h ⊢
  unfold out0_4
  rw [View.canon_unit_zero zero_pair, View.ld_unit_zero zero_pair, View.ld_unit_zero zero_pair, View.ld_unit_zero zero_pair]
  exact weightsBlock_apply h z

end Cert.RouteIdeal.Layer

end
-- ==== Proof.RouteRef.lean ====
/-
  The router's reference, element by element: its scores, the two experts that its stable sort selects for a token, and their softmax.
-/
module

public import proofs.«01_k».proof.Proof.RouteSpec
public import proofs.«01_k».proof.Proof.Gen.RouteReferenceIdeal.Read
public import Idealize.ShloMosaic.Lib.Pointwise

@[expose] public section

noncomputable section

namespace Cert.RouteReferenceIdeal.Layer

open Cert.RouteReferenceIdeal Cert.RouteReferenceIdeal.Read Cert.Experts Cert.Route.Layer
open Idealize.ShloMosaic Idealize.ShloMosaic.TcCoe

/-- The stable sort of the scores' rows, cut to its first two columns, at a row: the two experts and their scores. -/
theorem topK_apply (v : FVec Ideal S16384x8 .f32) (hs : S16384x8.Slices (fun _ => 0) S16384x2) (n : Fin 16384) {p q : Fin 8}
    (h : TopTwo (fun e => v (ix2 n e)) p q) (i : Fin 2) :
    (Host.topK S16384x2 1 (FloatOps.cmpfTotal .gt) v hs).1 (ix2 n i) = v (ix2 n (![p, q] i))
      ∧ (Host.topK S16384x2 1 (FloatOps.cmpfTotal .gt) v hs).2 (ix2 n i) = BitVec.ofNat 32 (![p, q] i).val := by
  have ea (j k : Fin 8) : (ix2 n j : S16384x8.Idx).along 1 k = ix2 n k := by
    funext b
    fin_cases b <;> rfl
  have ek : (fun k k' : Fin 8 => FloatOps.cmpfTotal (F := Ideal) .gt (v (ix2 n k)) (v (ix2 n k')) == 1#1)
      = fun k k' => decide (v (ix2 n k') < v (ix2 n k)) := by
    funext k k'
    show (BitVec.ofBool (decide (v (ix2 n k') < v (ix2 n k))) == 1#1) = _
    cases decide (v (ix2 n k') < v (ix2 n k)) <;> rfl
  rw [← h.sortedFrom_eq i, ← ek]
  constructor
  · unfold Host.topK Host.sort2
    pointwise
    simp only [ea]
    rfl
  · unfold Host.topK Host.sort2
    pointwise
    simp only [ea]
    rfl

variable (h : FVec Ideal S16384x1024 .f32) (g : FVec Ideal S1024 .f32) (w : FVec Ideal S1024x8 .f32)

/-- The scores of the token of row `n`. -/
def row (n : Fin 16384) : Fin 8 → EReal := score (fun k => h (ix2 n k)) (fun k => g (ix1 k)) (fun k e => w (ix2 k e))

theorem scores_apply (n : Fin 16384) (e : Fin 8) : val_main_v13 (F := Ideal) h g w (ix2 n e) = row h g w n e := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1 row score rmsRow
  pointwise

variable {n : Fin 16384} {p q : Fin 8}

theorem values_apply (t : TopTwo (row h g w n) p q) (i : Fin 2) : val_main_values (F := Ideal) h g w (ix2 n i) = ![row h g w n p, row h g w n q] i := by
  rw [← funext (scores_apply h g w n)] at t ⊢
  refine (topK_apply (val_main_v13 (F := Ideal) h g w) _ n t i).1.trans ?_
  fin_cases i <;> rfl

/-- The experts of a token. -/
theorem indices_apply (t : TopTwo (row h g w n) p q) (i : Fin 2) : val_main_v14 (F := Ideal) h g w (ix2 i n) = BitVec.ofNat 32 (![p, q] i).val := by
  rw [← funext (scores_apply h g w n)] at t
  refine Eq.trans (b := val_main_indices (F := Ideal) h g w (ix2 n i)) ?_ (topK_apply (val_main_v13 (F := Ideal) h g w) _ n t i).2
  unfold val_main_v14
  generalize val_main_indices (F := Ideal) h g w = o
  pointwise

/-- The exponentials of a token's two scores, the greater taken off. -/
theorem exps_apply (t : TopTwo (row h g w n) p q) (i : Fin 2) :
    val_main_v21 (F := Ideal) h g w (ix2 n i) = Ideal.exp (![row h g w n p, row h g w n q] i - row h g w n p) := by
  have hm : Finset.univ.fold max (⊥ : EReal) ![row h g w n p, row h g w n q] = row h g w n p :=
    fold_max_eq ![row h g w n p, row h g w n q] 0 fun k => by
      fin_cases k
      · exact le_rfl
      · exact t.le_first q
  rw [← values_apply h g w t i]
  conv_rhs => rw [← hm, ← funext (values_apply h g w t)]
  unfold val_main_v21 val_main_v20 val_main_v19 val_main_v18 val_main_v17 val_main_v16 val_main_v15 val_main_cst_3 val_main_cst_2
  generalize val_main_values (F := Ideal) h g w = v
  have hb : Ideal.ofBits .f32 0xFF800000#32 = ⊥ := by simp [Ideal.ofBits, Ideal.ieee]
  pointwise [hb]
  rw [max_eq_right bot_le]

/-- The weights of a token. -/
theorem weights_apply (t : TopTwo (row h g w n) p q) (hp : IsReal (row h g w n p)) (z : Fin 128) :
    val_main_v26 (F := Ideal) h g w (ix2 n z) = weight (row h g w n p) (row h g w n q) z := by
  have h0 : val_main_v21 (F := Ideal) h g w (ix2 n 0) = 1 := by
    rw [exps_apply h g w t 0]
    obtain ⟨r, hr⟩ := hp
    show Ideal.exp (row h g w n p - row h g w n p) = 1
    rw [hr, ← EReal.coe_sub, sub_self]
    show ((Real.exp 0 : ℝ) : EReal) = 1
    rw [Real.exp_zero, EReal.coe_one]
  have h1 : val_main_v21 (F := Ideal) h g w (ix2 n 1) = Ideal.exp (row h g w n q - row h g w n p) := exps_apply h g w t 1
  have hz (i : Fin 2) : val_main_v25 (F := Ideal) h g w (ix2 n i)
      = Ideal.div (val_main_v21 (F := Ideal) h g w (ix2 n i)) (1 + Ideal.exp (row h g w n q - row h g w n p)) := by
    rw [← h1, ← h0]
    unfold val_main_v25 val_main_v24 val_main_v23 val_main_v22 val_main_cst_4
    generalize val_main_v21 (F := Ideal) h g w = v
    pointwise
    rw [Fin.sum_univ_two]
  have hv : val_main_v26 (F := Ideal) h g w (ix2 n z) = if hz : z.val < 2 then val_main_v25 (F := Ideal) h g w (ix2 n ⟨z.val, hz⟩) else 0 := by
    unfold val_main_v26 val_main_call0_v0 val_main_c
    generalize val_main_v25 (F := Ideal) h g w = v
    have e0 : FloatOps.sitofp (F := Ideal) .f32 0#32 = 0 := by
      show (((0#32 : BitVec 32).toInt : ℝ) : EReal) = 0
      simp
    pointwise [e0]
  rw [hv]
  unfold weight
  by_cases z1 : z.val < 1
  · have e : (⟨z.val, by omega⟩ : Fin 2) = 0 := Fin.ext (by show z.val = 0; omega)
    rw [if_pos z1, dif_pos (by omega), e, hz, h0]
  · rw [if_neg z1]
    by_cases z2 : z.val < 2
    · have e : (⟨z.val, z2⟩ : Fin 2) = 1 := Fin.ext (by show z.val = 1; omega)
      rw [if_pos z2, dif_pos z2, e, hz, h1]
    · rw [if_neg z2, dif_neg z2]

end Cert.RouteReferenceIdeal.Layer

end
-- ==== Proof.RouteClaims.lean ====
/-
  What is claimed of the router: the kernel, its reading at the ideal values and the reference run, and at real arguments the last two
  programs select the same experts with the same weights over the extended reals.
-/
module

public import proofs.«01_k».proof.Defs
public import proofs.«01_k».proof.Proof.RouteValue
public import proofs.«01_k».proof.Proof.RouteRef
public import proofs.«01_k».proof.Proof.Gen.Pre_finite
public import proofs.«01_k».proof.Proof.Gen.Route.Frame
public import proofs.«01_k».proof.Proof.Gen.RouteReferenceIdeal.Run

@[expose] public section

noncomputable section

namespace Cert.Route.Layer

open Idealize.ShloMosaic Idealize.ShloMosaic.TcCoe Idealize.SL.Sem

theorem runs_kernel : Cert.quiescent_Route := fun m ρ _ => Cert.Route.Gen.frame m ρ

theorem runs_ideal : Cert.quiescent_RouteIdeal := fun m ρ _ => Cert.RouteIdeal.Gen.frame m ρ

theorem runs_ideal_finite : Cert.quiescent_RouteIdeal_pre_finite := fun m ρ _ => Cert.RouteIdeal.Gen.frame m ρ

theorem runs_reference : Cert.quiescent_RouteReferenceIdeal := fun m ρ _ =>
  (θ_run _ _ _).mono (fun r h => ⟨fun c => (h c).2.2, sem_eq_zero_of_no_sems (by decide) r.2⟩)
    (Cert.RouteReferenceIdeal.Value.run (F := Ideal) m ρ)

theorem runs_reference_finite : Cert.quiescent_RouteReferenceIdeal_pre_finite := fun m ρ _ => runs_reference m ρ trivial

/-- Equal arguments give equal experts of the reference. -/
theorem experts_congr {x0 y0 x1 y1 x2 y2} (h0 : x0 = y0) (h1 : x1 = y1) (h2 : x2 = y2) :
    Cert.RouteReferenceIdeal.Read.val_main_v14 (F := Ideal) x0 x1 x2 = Cert.RouteReferenceIdeal.Read.val_main_v14 (F := Ideal) y0 y1 y2 := by
  subst h0 h1 h2; rfl

/-- Equal arguments give equal weights of the reference. -/
theorem weights_congr {x0 y0 x1 y1 x2 y2} (h0 : x0 = y0) (h1 : x1 = y1) (h2 : x2 = y2) :
    Cert.RouteReferenceIdeal.Read.val_main_v26 (F := Ideal) x0 x1 x2 = Cert.RouteReferenceIdeal.Read.val_main_v26 (F := Ideal) y0 y1 y2 := by
  subst h0 h1 h2; rfl

theorem isReal_of_word {x : EReal} (h : BitVec.ofBool (decide (max x (-x) < Ideal.ofBits .f32 0x7F800000#32)) = 1#1) : IsReal x := by
  have hi : Ideal.ofBits .f32 0x7F800000#32 = ⊤ := by simp [Ideal.ofBits, Ideal.ieee]
  rw [hi] at h
  refine isReal_of_abs_lt ?_
  by_contra hn
  rw [decide_eq_false hn] at h
  exact absurd h (by decide)

/-- At the precondition a token's scores are real. -/
theorem scores_real {m : (ℓ : Loc Cert.RouteIdeal.nD Cert.RouteIdeal.τ Cert.RouteIdeal.sig) → Buf (Elt Ideal) ℓ} (hpre : Cert.Pre_RouteIdeal_finite m)
    (c : Dev Cert.RouteIdeal.nD) (n : Fin 16384) (e : Fin 8) : IsReal (Cert.RouteIdeal.Layer.scores m c n e) := by
  obtain ⟨hh, hg, hw⟩ := hpre c
  exact isReal_score (fun k => isReal_of_word (congrFun hh (ix2 n k))) (fun k => isReal_of_word (congrFun hg (ix1 k)))
    (fun k e => isReal_of_word (congrFun hw (ix2 k e))) e

theorem algebraic : Cert.algebraic_RouteIdeal_RouteReferenceIdeal_pre_finite := fun m ρ m' ρ' hpre hag => by
  refine ⟨fun c => Cert.RouteReferenceIdeal.Read.val_main_v14 (F := Ideal)
      (m ((c.tc : Thread Cert.RouteIdeal.nD Cert.RouteIdeal.τ).loc Cert.RouteIdeal.main_arg0)) (m ((c.tc : Thread Cert.RouteIdeal.nD Cert.RouteIdeal.τ).loc Cert.RouteIdeal.main_arg1))
      (m ((c.tc : Thread Cert.RouteIdeal.nD Cert.RouteIdeal.τ).loc Cert.RouteIdeal.main_arg2)),
    fun c => Cert.RouteReferenceIdeal.Read.val_main_v26 (F := Ideal)
      (m ((c.tc : Thread Cert.RouteIdeal.nD Cert.RouteIdeal.τ).loc Cert.RouteIdeal.main_arg0)) (m ((c.tc : Thread Cert.RouteIdeal.nD Cert.RouteIdeal.τ).loc Cert.RouteIdeal.main_arg1))
      (m ((c.tc : Thread Cert.RouteIdeal.nD Cert.RouteIdeal.τ).loc Cert.RouteIdeal.main_arg2)), ?_, ?_⟩
  · refine (θ_run _ _ _).mono (fun r h c => ⟨(h c).1.trans (funext fun i => ?_), (h c).2.1.trans (funext fun i => ?_), (h c).2.2⟩)
      (Cert.RouteIdeal.Value.run_blocks m ρ)
    · rw [eq_ix2 i]
      obtain ⟨p, q, t⟩ := exists_topTwo (Cert.RouteIdeal.Layer.scores m c (i 1))
      exact (Cert.RouteIdeal.Layer.experts_result_apply m c _ t (scores_real hpre c _ q) _).trans
        (Cert.RouteReferenceIdeal.Layer.indices_apply _ _ _ t _).symm
    · rw [eq_ix2 i]
      obtain ⟨p, q, t⟩ := exists_topTwo (Cert.RouteIdeal.Layer.scores m c (i 0))
      exact (Cert.RouteIdeal.Layer.weights_result_apply m c _ t _).trans
        (Cert.RouteReferenceIdeal.Layer.weights_apply _ _ _ t (scores_real hpre c _ p) _).symm
  · refine (θ_run _ _ _).mono (fun r h c => ⟨?_, ?_, (h c).2.2⟩) (Cert.RouteReferenceIdeal.Value.run m' ρ')
    · refine ((h c).1.trans (Cert.RouteReferenceIdeal.Read.val_main_v14_eq _ _ _)).trans ?_
      obtain ⟨h0, h1, h2⟩ := hag c
      exact experts_congr h0 h1 h2
    · refine ((h c).2.1.trans (Cert.RouteReferenceIdeal.Read.val_main_v26_eq _ _)).trans ?_
      obtain ⟨h0, h1, h2⟩ := hag c
      exact weights_congr h0 h1 h2

end Cert.Route.Layer

end
-- ==== Proof.PrepValue.lean ====
/-
  The discretisation of the diagonal state space: what one pole and one input weight become under a zero-order hold, and the kernel read
  element by element as that.
-/
module

public import proofs.«01_k».proof.Proof.Gen.PrepIdeal.Value
public import Idealize.ShloMosaic.Lib.Pointwise

@[expose] public section

noncomputable section

namespace Cert.Prep.Layer

open Idealize.ShloMosaic

/-- The real part of the discrete pole `exp ((a + b i) * exp l)`. -/
def poleRe (a b l : EReal) : EReal := Ideal.exp (a * Ideal.exp l) * Ideal.cos (b * Ideal.exp l)
/-- The imaginary part of the discrete pole. -/
def poleIm (a b l : EReal) : EReal := Ideal.exp (a * Ideal.exp l) * Ideal.sin (b * Ideal.exp l)
/-- The real part of the discrete pole less one, over the pole. -/
def holdRe (a b l : EReal) : EReal := Ideal.div ((poleRe a b l - Ideal.ofBits .f32 0x3F800000#32) * a + poleIm a b l * b) (a * a + b * b)
/-- The imaginary part of the discrete pole less one, over the pole. -/
def holdIm (a b l : EReal) : EReal := Ideal.div (poleIm a b l * a - (poleRe a b l - Ideal.ofBits .f32 0x3F800000#32) * b) (a * a + b * b)

end Cert.Prep.Layer

namespace Cert.PrepIdeal.Layer

open Cert.PrepIdeal Cert.PrepIdeal.Gen Cert.Prep.Layer
open Idealize.ShloMosaic Idealize.ShloMosaic.TcCoe
open Idealize.ShloMosaic.Pipeline (Dat Cfg Window)

/-! ## The block -/

section Block

variable (a b l : Vec Ideal S64x64 .f32) (u v : Vec Ideal S64x16x64 .f32)

theorem poleRe_apply (n p : Fin 64) : k0_pay4 a b l (ix2 n p) = poleRe (a (ix2 n p)) (b (ix2 n p)) (l (ix2 n p)) := by
  unfold k0_pay4 k0_pay3 k0_pay2 poleRe
  pointwise

theorem poleIm_apply (n p : Fin 64) : k0_pay5 a b l (ix2 n p) = poleIm (a (ix2 n p)) (b (ix2 n p)) (l (ix2 n p)) := by
  unfold k0_pay5 k0_pay3 k0_pay2 poleIm
  pointwise

theorem holdRe_apply (n p : Fin 64) : k0_pay8 a b l (ix3 n 0 p) = holdRe (a (ix2 n p)) (b (ix2 n p)) (l (ix2 n p)) := by
  unfold holdRe
  rw [← poleRe_apply, ← poleIm_apply]
  unfold k0_pay8 k0_pay7 k0_pay6
  generalize k0_pay4 a b l = x
  generalize k0_pay5 a b l = y
  pointwise

theorem holdIm_apply (n p : Fin 64) : k0_pay9 a b l (ix3 n 0 p) = holdIm (a (ix2 n p)) (b (ix2 n p)) (l (ix2 n p)) := by
  unfold holdIm
  rw [← poleRe_apply, ← poleIm_apply]
  unfold k0_pay9 k0_pay7 k0_pay6
  generalize k0_pay4 a b l = x
  generalize k0_pay5 a b l = y
  pointwise

theorem inputRe_apply (n p : Fin 64) (h : Fin 16) :
    k0_pay12 a b l u v (ix3 n h p) = holdRe (a (ix2 n p)) (b (ix2 n p)) (l (ix2 n p)) * u (ix3 n h p)
      - holdIm (a (ix2 n p)) (b (ix2 n p)) (l (ix2 n p)) * v (ix3 n h p) := by
  rw [← holdRe_apply, ← holdIm_apply]
  unfold k0_pay12 k0_pay10 k0_pay11
  generalize k0_pay8 a b l = x
  generalize k0_pay9 a b l = y
  pointwise

theorem inputIm_apply (n p : Fin 64) (h : Fin 16) :
    k0_pay1 (k0_pay8 a b l) (k0_pay9 a b l) (k0_pay10 u) (k0_pay11 v) (ix3 n h p)
      = holdRe (a (ix2 n p)) (b (ix2 n p)) (l (ix2 n p)) * v (ix3 n h p) + holdIm (a (ix2 n p)) (b (ix2 n p)) (l (ix2 n p)) * u (ix3 n h p) := by
  rw [← holdRe_apply, ← holdIm_apply]
  unfold k0_pay1 k0_pay10 k0_pay11
  generalize k0_pay8 a b l = x
  generalize k0_pay9 a b l = y
  pointwise

end Block

/-! ## The blocks the pipeline stages -/

variable (m : (ℓ : Loc nD τ sig) → Buf (Elt Ideal) ℓ)

theorem staged_re (c : Dev nD) (t : Fin cfg0.N) (n p : Fin 64) :
    (iblk m c 0 t : Vec Ideal S64x64 .f32) (ix2 n p) = (m ((c.tc : Thread nD τ).loc main_arg0) : FVec Ideal S64x64 .f32) (ix2 n p) := by
  refine Eq.trans (congrArg (V m c main_arg0) (funext fun b => Fin.ext ?_)) (congrFun (V_main_arg0 m c) (ix2 n p))
  refine (Window.rect_emb_val (cfg0.win (0 : Fin 9)) t (ix2 n p) b).trans ?_
  fin_cases b <;> exact Nat.zero_add _

theorem staged_im (c : Dev nD) (t : Fin cfg0.N) (n p : Fin 64) :
    (iblk m c 1 t : Vec Ideal S64x64 .f32) (ix2 n p) = (m ((c.tc : Thread nD τ).loc main_arg1) : FVec Ideal S64x64 .f32) (ix2 n p) := by
  refine Eq.trans (congrArg (V m c main_arg1) (funext fun b => Fin.ext ?_)) (congrFun (V_main_arg1 m c) (ix2 n p))
  refine (Window.rect_emb_val (cfg0.win (1 : Fin 9)) t (ix2 n p) b).trans ?_
  fin_cases b <;> exact Nat.zero_add _

theorem staged_step (c : Dev nD) (t : Fin cfg0.N) (n p : Fin 64) :
    (iblk m c 2 t : Vec Ideal S64x64 .f32) (ix2 n p) = (m ((c.tc : Thread nD τ).loc main_arg2) : FVec Ideal S64 .f32) (ix1 n) := by
  have e : V m c main_v1 = (broadcastInDim S64x64 ![0, 1] bcast_S64x1_S64x64_0_1
      (broadcastInDim S64x1 ![0] bcast_S64_S64x1_0 (m ((c.tc : Thread nD τ).loc main_arg2) : FVec Ideal S64 .f32)) : FVec Ideal S64x64 .f32) := by
    dsimp only [V, hostOps0]
    after_results_simp
  refine Eq.trans (congrArg (V m c main_v1) (funext fun b => Fin.ext ?_)) ((congrFun e (ix2 n p)).trans (by pointwise))
  refine (Window.rect_emb_val (cfg0.win (2 : Fin 9)) t (ix2 n p) b).trans ?_
  fin_cases b <;> exact Nat.zero_add _

theorem staged_inputRe (c : Dev nD) (t : Fin cfg0.N) (n p : Fin 64) (h : Fin 16) :
    (iblk m c 3 t : Vec Ideal S64x16x64 .f32) (ix3 n h p) = (m ((c.tc : Thread nD τ).loc main_arg3) : FVec Ideal S64x64x16 .f32) (ix3 n p h) := by
  have e : V m c main_v2 = (transpose S64x16x64 [0, 2, 1] (m ((c.tc : Thread nD τ).loc main_arg3) : FVec Ideal S64x64x16 .f32)
      transposes_S64x64x16_S64x16x64_0_2_1 : FVec Ideal S64x16x64 .f32) := by
    dsimp only [V, hostOps0]
    after_results_simp
  refine Eq.trans (congrArg (V m c main_v2) (funext fun b => Fin.ext ?_)) ((congrFun e (ix3 n h p)).trans (by pointwise))
  refine (Window.rect_emb_val (cfg0.win (3 : Fin 9)) t (ix3 n h p) b).trans ?_
  fin_cases b <;> exact Nat.zero_add _

theorem staged_inputIm (c : Dev nD) (t : Fin cfg0.N) (n p : Fin 64) (h : Fin 16) :
    (iblk m c 4 t : Vec Ideal S64x16x64 .f32) (ix3 n h p) = (m ((c.tc : Thread nD τ).loc main_arg4) : FVec Ideal S64x64x16 .f32) (ix3 n p h) := by
  have e : V m c main_v3 = (transpose S64x16x64 [0, 2, 1] (m ((c.tc : Thread nD τ).loc main_arg4) : FVec Ideal S64x64x16 .f32)
      transposes_S64x64x16_S64x16x64_0_2_1 : FVec Ideal S64x16x64 .f32) := by
    dsimp only [V, hostOps0]
    after_results_simp
  refine Eq.trans (congrArg (V m c main_v3) (funext fun b => Fin.ext ?_)) ((congrFun e (ix3 n h p)).trans (by pointwise))
  refine (Window.rect_emb_val (cfg0.win (4 : Fin 9)) t (ix3 n h p) b).trans ?_
  fin_cases b <;> exact Nat.zero_add _

/-! ## The results -/

/-- The one point of the grid. -/
def point : Fin cfg0.N := ⟨0, by decide⟩

theorem zero_pair : (![0, 0] : Fin 2 → ℕ) = fun _ => 0 := by
  funext b
  fin_cases b <;> rfl

theorem zero_triple : (![0, 0, 0] : Fin 3 → ℕ) = fun _ => 0 := by
  funext b
  fin_cases b <;> rfl

variable (c : Dev nD) (n p : Fin 64) (h : Fin 16)

/-- A function of a pole's two parts and its step, at the pole `p` of group `n` of the arguments. -/
def atPole (f : EReal → EReal → EReal → EReal) : EReal :=
  f ((m ((c.tc : Thread nD τ).loc main_arg0) : FVec Ideal S64x64 .f32) (ix2 n p)) ((m ((c.tc : Thread nD τ).loc main_arg1) : FVec Ideal S64x64 .f32) (ix2 n p))
    ((m ((c.tc : Thread nD τ).loc main_arg2) : FVec Ideal S64 .f32) (ix1 n))

theorem inputRe_result : (dats m 0 c).arrAt (5 : Fin 9) cfg0.N (ix3 n h p : S64x16x64.Idx)
    = atPole m c n p holdRe * (m ((c.tc : Thread nD τ).loc main_arg3) : FVec Ideal S64x64x16 .f32) (ix3 n p h)
      - atPole m c n p holdIm * (m ((c.tc : Thread nD τ).loc main_arg4) : FVec Ideal S64x64x16 .f32) (ix3 n p h) := by
  have he : ((cfg0.win (5 : Fin 9)).blk point).view.emb (ix3 n h p : S64x16x64.Idx) = (ix3 n h p : S64x16x64.Idx) := by
    refine funext fun b => Fin.ext ((Window.rect_emb_val (cfg0.win (5 : Fin 9)) point (ix3 n h p) b).trans ?_)
    fin_cases b <;> exact Nat.zero_add _
  refine Eq.trans (congrArg ((dats m 0 c).arrAt (5 : Fin 9) cfg0.N) he.symm)
    ((congrFun ((Cert.PrepIdeal.Value.blocks5 m c point (by decide +kernel)).trans (Cert.PrepIdeal.Value.flushed5 m c point)) _).trans ?_)
  show out0_5 (iblk m c 0 point) (iblk m c 1 point) (iblk m c 2 point) (iblk m c 3 point) (iblk m c 4 point) (ix3 n h p) = _
  unfold out0_5 atPole
  rw [View.canon_unit_zero zero_triple]
  repeat rw [View.ld_unit_zero zero_pair]
  repeat rw [View.ld_unit_zero zero_triple]
  rw [inputRe_apply, staged_re, staged_im, staged_step, staged_inputRe, staged_inputIm]

theorem inputIm_result : (dats m 0 c).arrAt (6 : Fin 9) cfg0.N (ix3 n h p : S64x16x64.Idx)
    = atPole m c n p holdRe * (m ((c.tc : Thread nD τ).loc main_arg4) : FVec Ideal S64x64x16 .f32) (ix3 n p h)
      + atPole m c n p holdIm * (m ((c.tc : Thread nD τ).loc main_arg3) : FVec Ideal S64x64x16 .f32) (ix3 n p h) := by
  have he : ((cfg0.win (6 : Fin 9)).blk point).view.emb (ix3 n h p : S64x16x64.Idx) = (ix3 n h p : S64x16x64.Idx) := by
    refine funext fun b => Fin.ext ((Window.rect_emb_val (cfg0.win (6 : Fin 9)) point (ix3 n h p) b).trans ?_)
    fin_cases b <;> exact Nat.zero_add _
  refine Eq.trans (congrArg ((dats m 0 c).arrAt (6 : Fin 9) cfg0.N) he.symm)
    ((congrFun ((Cert.PrepIdeal.Value.blocks6 m c point (by decide +kernel)).trans (Cert.PrepIdeal.Value.flushed6 m c point)) _).trans ?_)
  show out0_6 (iblk m c 0 point) (iblk m c 1 point) (iblk m c 2 point) (iblk m c 3 point) (iblk m c 4 point) (ix3 n h p) = _
  unfold out0_6 atPole
  rw [View.canon_unit_zero zero_triple]
  repeat rw [View.ld_unit_zero zero_pair]
  repeat rw [View.ld_unit_zero zero_triple]
  rw [inputIm_apply, staged_re, staged_im, staged_step, staged_inputRe, staged_inputIm]

theorem poleRe_result : (dats m 0 c).arrAt (7 : Fin 9) cfg0.N (ix2 n p : S64x64.Idx) = atPole m c n p poleRe := by
  have he : ((cfg0.win (7 : Fin 9)).blk point).view.emb (ix2 n p : S64x64.Idx) = (ix2 n p : S64x64.Idx) := by
    refine funext fun b => Fin.ext ((Window.rect_emb_val (cfg0.win (7 : Fin 9)) point (ix2 n p) b).trans ?_)
    fin_cases b <;> exact Nat.zero_add _
  refine Eq.trans (congrArg ((dats m 0 c).arrAt (7 : Fin 9) cfg0.N) he.symm)
    ((congrFun ((Cert.PrepIdeal.Value.blocks7 m c point (by decide +kernel)).trans (Cert.PrepIdeal.Value.flushed7 m c point)) _).trans ?_)
  show out0_7 (iblk m c 0 point) (iblk m c 1 point) (iblk m c 2 point) (iblk m c 3 point) (iblk m c 4 point) (ix2 n p) = _
  unfold out0_7 atPole
  rw [View.canon_unit_zero zero_pair]
  repeat rw [View.ld_unit_zero zero_pair]
  rw [poleRe_apply, staged_re, staged_im, staged_step]

theorem poleIm_result : (dats m 0 c).arrAt (8 : Fin 9) cfg0.N (ix2 n p : S64x64.Idx) = atPole m c n p poleIm := by
  have he : ((cfg0.win (8 : Fin 9)).blk point).view.emb (ix2 n p : S64x64.Idx) = (ix2 n p : S64x64.Idx) := by
    refine funext fun b => Fin.ext ((Window.rect_emb_val (cfg0.win (8 : Fin 9)) point (ix2 n p) b).trans ?_)
    fin_cases b <;> exact Nat.zero_add _
  refine Eq.trans (congrArg ((dats m 0 c).arrAt (8 : Fin 9) cfg0.N) he.symm)
    ((congrFun ((Cert.PrepIdeal.Value.blocks8 m c point (by decide +kernel)).trans (Cert.PrepIdeal.Value.flushed8 m c point)) _).trans ?_)
  show out0_8 (iblk m c 0 point) (iblk m c 1 point) (iblk m c 2 point) (iblk m c 3 point) (iblk m c 4 point) (ix2 n p) = _
  unfold out0_8 atPole
  rw [View.canon_unit_zero zero_pair]
  repeat rw [View.ld_unit_zero zero_pair]
  rw [poleIm_apply, staged_re, staged_im, staged_step]

end Cert.PrepIdeal.Layer

end
-- ==== Proof.PrepRef.lean ====
/-
  The reference's discretisation of the diagonal state space, read element by element.
-/
module

public import proofs.«01_k».proof.Proof.PrepValue
public import proofs.«01_k».proof.Proof.Gen.PrepReferenceIdeal.Read

@[expose] public section

noncomputable section

namespace Cert.PrepReferenceIdeal.Layer

open Cert.PrepReferenceIdeal Cert.PrepReferenceIdeal.Gen Cert.PrepReferenceIdeal.Read Cert.Prep.Layer
open Idealize.ShloMosaic Idealize.ShloMosaic.TcCoe

variable (a b : Vec Ideal S64x64 .f32) (l : Vec Ideal S64 .f32) (u v : Vec Ideal S64x64x16 .f32) (n p : Fin 64) (h : Fin 16)

theorem poleRe_read : val_main_v8 a b l (ix2 n p) = poleRe (a (ix2 n p)) (b (ix2 n p)) (l (ix1 n)) := by
  unfold val_main_v8 val_main_v7 val_main_v6 val_main_v5 val_main_v4 val_main_v3 val_main_v2 val_main_v1 val_main_v0 poleRe
  pointwise

theorem poleIm_read : val_main_v12 a b l (ix2 n p) = poleIm (a (ix2 n p)) (b (ix2 n p)) (l (ix1 n)) := by
  unfold val_main_v12 val_main_v11 val_main_v10 val_main_v9 val_main_v4 val_main_v3 val_main_v2 val_main_v1 val_main_v0 poleIm
  pointwise

theorem holdRe_read : val_main_v21 a b l (ix2 n p) = holdRe (a (ix2 n p)) (b (ix2 n p)) (l (ix1 n)) := by
  unfold holdRe
  rw [← poleRe_read, ← poleIm_read]
  unfold val_main_v21 val_main_v20 val_main_v19 val_main_v18 val_main_v17 val_main_v16 val_main_v15 val_main_v14 val_main_v13 val_main_cst
  generalize val_main_v8 a b l = x
  generalize val_main_v12 a b l = y
  pointwise

theorem holdIm_read : val_main_v25 a b l (ix2 n p) = holdIm (a (ix2 n p)) (b (ix2 n p)) (l (ix1 n)) := by
  unfold holdIm
  rw [← poleRe_read, ← poleIm_read]
  unfold val_main_v25 val_main_v24 val_main_v23 val_main_v22 val_main_v17 val_main_v16 val_main_v15 val_main_v14 val_main_v13 val_main_cst
  generalize val_main_v8 a b l = x
  generalize val_main_v12 a b l = y
  pointwise

theorem inputRe_read : val_main_v40 a b l u v (ix3 n h p) = holdRe (a (ix2 n p)) (b (ix2 n p)) (l (ix1 n)) * u (ix3 n p h)
    - holdIm (a (ix2 n p)) (b (ix2 n p)) (l (ix1 n)) * v (ix3 n p h) := by
  rw [← holdRe_read, ← holdIm_read]
  unfold val_main_v40 val_main_v32 val_main_v31 val_main_v30 val_main_v29 val_main_v28 val_main_v27 val_main_v26
  generalize val_main_v21 a b l = x
  generalize val_main_v25 a b l = y
  pointwise

theorem inputIm_read : val_main_v41 a b l u v (ix3 n h p) = holdRe (a (ix2 n p)) (b (ix2 n p)) (l (ix1 n)) * v (ix3 n p h)
    + holdIm (a (ix2 n p)) (b (ix2 n p)) (l (ix1 n)) * u (ix3 n p h) := by
  rw [← holdRe_read, ← holdIm_read]
  unfold val_main_v41 val_main_v39 val_main_v38 val_main_v37 val_main_v36 val_main_v35 val_main_v34 val_main_v33
  generalize val_main_v21 a b l = x
  generalize val_main_v25 a b l = y
  pointwise

end Cert.PrepReferenceIdeal.Layer

end
-- ==== Proof.PrepClaims.lean ====
/-
  What is claimed of the discretisation of the state space: the kernel, its reading at the ideal values and the reference run, and the last
  two programs compute the same four functions over the extended reals.
-/
module

public import proofs.«01_k».proof.Defs
public import proofs.«01_k».proof.Proof.PrepValue
public import proofs.«01_k».proof.Proof.PrepRef
public import proofs.«01_k».proof.Proof.Gen.Prep.Frame
public import proofs.«01_k».proof.Proof.Gen.PrepReferenceIdeal.Run

@[expose] public section

noncomputable section

namespace Cert.Prep.Layer

open Idealize.ShloMosaic Idealize.ShloMosaic.TcCoe Idealize.SL.Sem

theorem runs_kernel : Cert.quiescent_Prep := fun m ρ _ => Cert.Prep.Gen.frame m ρ

theorem runs_ideal : Cert.quiescent_PrepIdeal := fun m ρ _ => Cert.PrepIdeal.Gen.frame m ρ

theorem runs_reference : Cert.quiescent_PrepReferenceIdeal := fun m ρ _ =>
  (θ_run _ _ _).mono (fun r h => ⟨fun c => (h c).2.2.2.2, sem_eq_zero_of_no_sems (by decide) r.2⟩)
    (Cert.PrepReferenceIdeal.Value.run (F := Ideal) m ρ)

/-- Equal poles and steps give equal discrete poles of the reference, in both parts. -/
theorem poles_congr {x0 y0 x1 y1 x2 y2} (h0 : x0 = y0) (h1 : x1 = y1) (h2 : x2 = y2) :
    Cert.PrepReferenceIdeal.Read.val_main_v8 (F := Ideal) x0 x1 x2 = Cert.PrepReferenceIdeal.Read.val_main_v8 (F := Ideal) y0 y1 y2
    ∧ Cert.PrepReferenceIdeal.Read.val_main_v12 (F := Ideal) x0 x1 x2 = Cert.PrepReferenceIdeal.Read.val_main_v12 (F := Ideal) y0 y1 y2 := by
  subst h0 h1 h2; exact ⟨rfl, rfl⟩

/-- Equal arguments give equal input weights of the reference, in both parts. -/
theorem inputs_congr {x0 y0 x1 y1 x2 y2 x3 y3 x4 y4} (h0 : x0 = y0) (h1 : x1 = y1) (h2 : x2 = y2) (h3 : x3 = y3) (h4 : x4 = y4) :
    Cert.PrepReferenceIdeal.Read.val_main_v40 (F := Ideal) x0 x1 x2 x3 x4 = Cert.PrepReferenceIdeal.Read.val_main_v40 (F := Ideal) y0 y1 y2 y3 y4
    ∧ Cert.PrepReferenceIdeal.Read.val_main_v41 (F := Ideal) x0 x1 x2 x3 x4 = Cert.PrepReferenceIdeal.Read.val_main_v41 (F := Ideal) y0 y1 y2 y3 y4 := by
  subst h0 h1 h2 h3 h4; exact ⟨rfl, rfl⟩

theorem algebraic : Cert.algebraic_PrepIdeal_PrepReferenceIdeal := fun m ρ m' ρ' _ hag => by
  refine ⟨fun c => Cert.PrepReferenceIdeal.Read.val_main_v40 (F := Ideal)
      (m ((c.tc : Thread Cert.PrepIdeal.nD Cert.PrepIdeal.τ).loc Cert.PrepIdeal.main_arg0)) (m ((c.tc : Thread Cert.PrepIdeal.nD Cert.PrepIdeal.τ).loc Cert.PrepIdeal.main_arg1))
      (m ((c.tc : Thread Cert.PrepIdeal.nD Cert.PrepIdeal.τ).loc Cert.PrepIdeal.main_arg2)) (m ((c.tc : Thread Cert.PrepIdeal.nD Cert.PrepIdeal.τ).loc Cert.PrepIdeal.main_arg3))
      (m ((c.tc : Thread Cert.PrepIdeal.nD Cert.PrepIdeal.τ).loc Cert.PrepIdeal.main_arg4)),
    fun c => Cert.PrepReferenceIdeal.Read.val_main_v41 (F := Ideal)
      (m ((c.tc : Thread Cert.PrepIdeal.nD Cert.PrepIdeal.τ).loc Cert.PrepIdeal.main_arg0)) (m ((c.tc : Thread Cert.PrepIdeal.nD Cert.PrepIdeal.τ).loc Cert.PrepIdeal.main_arg1))
      (m ((c.tc : Thread Cert.PrepIdeal.nD Cert.PrepIdeal.τ).loc Cert.PrepIdeal.main_arg2)) (m ((c.tc : Thread Cert.PrepIdeal.nD Cert.PrepIdeal.τ).loc Cert.PrepIdeal.main_arg3))
      (m ((c.tc : Thread Cert.PrepIdeal.nD Cert.PrepIdeal.τ).loc Cert.PrepIdeal.main_arg4)),
    fun c => Cert.PrepReferenceIdeal.Read.val_main_v8 (F := Ideal)
      (m ((c.tc : Thread Cert.PrepIdeal.nD Cert.PrepIdeal.τ).loc Cert.PrepIdeal.main_arg0)) (m ((c.tc : Thread Cert.PrepIdeal.nD Cert.PrepIdeal.τ).loc Cert.PrepIdeal.main_arg1))
      (m ((c.tc : Thread Cert.PrepIdeal.nD Cert.PrepIdeal.τ).loc Cert.PrepIdeal.main_arg2)),
    fun c => Cert.PrepReferenceIdeal.Read.val_main_v12 (F := Ideal)
      (m ((c.tc : Thread Cert.PrepIdeal.nD Cert.PrepIdeal.τ).loc Cert.PrepIdeal.main_arg0)) (m ((c.tc : Thread Cert.PrepIdeal.nD Cert.PrepIdeal.τ).loc Cert.PrepIdeal.main_arg1))
      (m ((c.tc : Thread Cert.PrepIdeal.nD Cert.PrepIdeal.τ).loc Cert.PrepIdeal.main_arg2)), ?_, ?_⟩
  · refine (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Cert.PrepIdeal.Value.run_blocks m ρ)
    · rw [eq_ix3 i]
      exact (Cert.PrepIdeal.Layer.inputRe_result m c _ _ _).trans (Cert.PrepReferenceIdeal.Layer.inputRe_read _ _ _ _ _ _ _ _).symm
    · rw [eq_ix3 i]
      exact (Cert.PrepIdeal.Layer.inputIm_result m c _ _ _).trans (Cert.PrepReferenceIdeal.Layer.inputIm_read _ _ _ _ _ _ _ _).symm
    · rw [eq_ix2 i]
      exact (Cert.PrepIdeal.Layer.poleRe_result m c _ _).trans (Cert.PrepReferenceIdeal.Layer.poleRe_read _ _ _ _ _).symm
    · rw [eq_ix2 i]
      exact (Cert.PrepIdeal.Layer.poleIm_result m c _ _).trans (Cert.PrepReferenceIdeal.Layer.poleIm_read _ _ _ _ _).symm
  · refine (θ_run _ _ _).mono (fun r h c => ?_) (Cert.PrepReferenceIdeal.Value.run m' ρ')
    obtain ⟨h0, h1, h2, h3, h4⟩ := hag c
    exact ⟨((h c).1.trans (Cert.PrepReferenceIdeal.Read.val_main_v40_eq _ _ _ _ _)).trans (inputs_congr h0 h1 h2 h3 h4).1,
      ((h c).2.1.trans (Cert.PrepReferenceIdeal.Read.val_main_v41_eq _ _ _ _ _)).trans (inputs_congr h0 h1 h2 h3 h4).2,
      ((h c).2.2.1.trans (Cert.PrepReferenceIdeal.Read.val_main_v8_eq _ _ _)).trans (poles_congr h0 h1 h2).1,
      ((h c).2.2.2.1.trans (Cert.PrepReferenceIdeal.Read.val_main_v12_eq _ _ _)).trans (poles_congr h0 h1 h2).2, (h c).2.2.2.2⟩

end Cert.Prep.Layer

end
-- ==== Proof.RglruClaims.lean ====
/-
  What is claimed of the gated linear recurrence: the kernel and its reading at the ideal values run to their end. Every grid point takes
  64 steps of the recurrence, and the state and the last three positions of the convolution go from one point to the next.
-/
module

public import proofs.«01_k».proof.Defs
public import proofs.«01_k».proof.Proof.Gen.Rglru.Frame
public import proofs.«01_k».proof.Proof.Gen.RglruIdeal.Frame

@[expose] public section

noncomputable section

namespace Cert.Rglru.Layer

theorem runs_kernel : Cert.quiescent_Rglru := fun m ρ _ => Cert.Rglru.Gen.frame m ρ

theorem runs_ideal : Cert.quiescent_RglruIdeal := fun m ρ _ => Cert.RglruIdeal.Gen.frame m ρ

end Cert.Rglru.Layer

end
-- ==== Proof.lean ====
/-
  The proof of the claims about the feed-forward calls, the gMLP mixer, the router, the discretisation of the state space and the gated
  recurrence. Every program runs to its end with its arguments as they were. Over the extended reals the routed experts' kernel and reference
  agree on the rows that hold a token; the dense layer's and the two halves of the mixer agree everywhere, and so do the discretisation's; the
  router's agree at real arguments. Of the recurrence's two programs no value is claimed.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_in_range
public import proofs.«01_k».proof.Proof.Gen.On_routed_rows
public import proofs.«01_k».proof.Proof.Gen.Dense.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.DenseReferenceIdeal.Read
public import proofs.«01_k».proof.Proof.Gen.GmlpIn.Frame
public import proofs.«01_k».proof.Proof.Gen.GmlpInIdeal.Value
public import proofs.«01_k».proof.Proof.Gen.GmlpInReferenceIdeal
public import proofs.«01_k».proof.Proof.Gen.GmlpInReferenceIdeal.Run
public import proofs.«01_k».proof.Proof.Gen.GmlpInReferenceIdeal.Read
public import proofs.«01_k».proof.Proof.Gen.GmlpOut.Frame
public import proofs.«01_k».proof.Proof.Gen.GmlpOutIdeal.Value
public import proofs.«01_k».proof.Proof.Gen.GmlpOutReferenceIdeal
public import proofs.«01_k».proof.Proof.Gen.GmlpOutReferenceIdeal.Run
public import proofs.«01_k».proof.Proof.Gen.GmlpOutReferenceIdeal.Read
public import proofs.«01_k».proof.Proof.Gen.Route.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.RouteReferenceIdeal.Read
public import proofs.«01_k».proof.Proof.Gen.Pre_finite
public import proofs.«01_k».proof.Proof.Gen.Prep.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Rglru.Frame
public import proofs.«01_k».proof.Proof.Gen.RglruIdeal.Frame
public import proofs.«01_k».proof.Proof.Runs
public import proofs.«01_k».proof.Proof.Algebraic
public import proofs.«01_k».proof.Proof.DenseClaims
public import proofs.«01_k».proof.Proof.GmlpInClaims
public import proofs.«01_k».proof.Proof.GmlpOutClaims
public import proofs.«01_k».proof.Proof.RouteClaims
public import proofs.«01_k».proof.Proof.PrepClaims
public import proofs.«01_k».proof.Proof.RglruClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Dense.Gen.facts, Cert.DenseIdeal.Gen.facts,
    Cert.DenseReferenceIdeal.Gen.facts, Cert.GmlpIn.Gen.facts, Cert.GmlpInIdeal.Gen.facts, Cert.GmlpInReferenceIdeal.Gen.facts,
    Cert.GmlpOut.Gen.facts, Cert.GmlpOutIdeal.Gen.facts, Cert.GmlpOutReferenceIdeal.Gen.facts,
    Cert.Route.Gen.facts, Cert.RouteIdeal.Gen.facts, Cert.RouteReferenceIdeal.Gen.facts,
    Cert.Prep.Gen.facts, Cert.PrepIdeal.Gen.facts, Cert.PrepReferenceIdeal.Gen.facts, Cert.Rglru.Gen.facts, Cert.RglruIdeal.Gen.facts,
    Cert.Pre_experts_in_range.Gen.facts, Cert.Pre_finite.Gen.facts, Cert.On_routed_rows.Gen.facts,
    Cert.Experts.runs_kernel, Cert.Experts.runs_ideal, Cert.Experts.runs_reference, Cert.Experts.runs_reference_in_range,
    Cert.Dense.Layer.runs_kernel, Cert.Dense.Layer.runs_ideal, Cert.Dense.Layer.runs_reference,
    Cert.GmlpIn.Layer.runs_kernel, Cert.GmlpIn.Layer.runs_ideal, Cert.GmlpIn.Layer.runs_reference,
    Cert.GmlpOut.Layer.runs_kernel, Cert.GmlpOut.Layer.runs_ideal, Cert.GmlpOut.Layer.runs_reference,
    Cert.Route.Layer.runs_kernel, Cert.Route.Layer.runs_ideal, Cert.Route.Layer.runs_ideal_finite, Cert.Route.Layer.runs_reference,
    Cert.Route.Layer.runs_reference_finite, Cert.Prep.Layer.runs_kernel, Cert.Prep.Layer.runs_ideal, Cert.Prep.Layer.runs_reference,
    Cert.Rglru.Layer.runs_kernel, Cert.Rglru.Layer.runs_ideal,
    trivial, Cert.Experts.algebraic, trivial, Cert.Dense.Layer.algebraic,
    Cert.GmlpIn.Layer.preserves, Cert.GmlpIn.Layer.algebraic, trivial, Cert.GmlpOut.Layer.algebraic,
    trivial, Cert.Route.Layer.algebraic, trivial, Cert.Prep.Layer.algebraic, trivial⟩

end Cert.Proof

end
